-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def Pre_DistinctIdeal_distinct_top [hPre_distinct_top : Cert.Pre_distinct_top.Facts] (m : (ℓ : Loc Cert.DistinctIdeal.nD Cert.DistinctIdeal.τ Cert.DistinctIdeal.sig) → Buf (Elt Ideal) ℓ) : Prop :=
  ∀ c : Dev Cert.DistinctIdeal.nD,
    (Cert.Pre_distinct_top.fn (F := Ideal) (m ((c.tc : Thread Cert.DistinctIdeal.nD Cert.DistinctIdeal.τ).loc Cert.DistinctIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top [hPre_distinct_top : Cert.Pre_distinct_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def quiescent_DistinctIdeal_pre_distinct_top [hDistinctIdeal : Cert.DistinctIdeal.Facts] [hPre_distinct_top : Cert.Pre_distinct_top.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal_distinct_top m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct_top [hReferenceIdeal : Cert.ReferenceIdeal.Facts] [hPre_distinct_top : Cert.Pre_distinct_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 16384]⟩ 1 16 c (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v37) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_DistinctIdeal_ReferenceIdeal_pre_distinct_top [hDistinctIdeal : Cert.DistinctIdeal.Facts] [hReferenceIdeal : Cert.ReferenceIdeal.Facts] [hPre_distinct_top : Cert.Pre_distinct_top.Facts] : Prop :=
  ∀ (m : (ℓ : Loc Cert.DistinctIdeal.nD Cert.DistinctIdeal.τ Cert.DistinctIdeal.sig) → Buf (Elt Ideal) ℓ) (g : Dev Cert.DistinctIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_DistinctIdeal_distinct_top m →
    (∀ c : Dev Cert.DistinctIdeal.nD,
      m' ((c.tc : Thread Cert.ReferenceIdeal.nD Cert.ReferenceIdeal.τ).loc Cert.ReferenceIdeal.main_arg0) = m ((c.tc : Thread Cert.DistinctIdeal.nD Cert.DistinctIdeal.τ).loc Cert.DistinctIdeal.main_arg0)) →
    ∃ (v0 : (c : Dev Cert.DistinctIdeal.nD) → Buf (Elt Ideal) ((c.tc : Thread Cert.DistinctIdeal.nD Cert.DistinctIdeal.τ).loc Cert.DistinctIdeal.main_v37)),
      θ_run (Cert.DistinctIdeal.defs (F := Ideal)) (onTc (τ := Cert.DistinctIdeal.τ) (Cert.DistinctIdeal.main (F := Ideal))) ⟨m, fun _ => 0, g⟩ (fun r => ∀ c : Dev Cert.DistinctIdeal.nD,
          r.2.mem ((c.tc : Thread Cert.DistinctIdeal.nD Cert.DistinctIdeal.τ).loc Cert.DistinctIdeal.main_v37) = v0 c
          ∧ r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hDistinctIdeal : Cert.DistinctIdeal.Facts) (hReferenceIdeal : Cert.ReferenceIdeal.Facts) (hPre_distinct_top : Cert.Pre_distinct_top.Facts) (hOn_untied : Cert.On_untied.Facts),
    quiescent_Kernel (hKernel := hKernel)
    ∧ quiescent_KernelIdeal (hKernelIdeal := hKernelIdeal)
    ∧ quiescent_DistinctIdeal (hDistinctIdeal := hDistinctIdeal)
    ∧ quiescent_DistinctIdeal_pre_distinct_top (hDistinctIdeal := hDistinctIdeal) (hPre_distinct_top := hPre_distinct_top)
    ∧ quiescent_ReferenceIdeal (hReferenceIdeal := hReferenceIdeal)
    ∧ quiescent_ReferenceIdeal_pre_distinct_top (hReferenceIdeal := hReferenceIdeal) (hPre_distinct_top := hPre_distinct_top)
    ∧ preserves_Kernel_KernelIdeal
    ∧ algebraic_KernelIdeal_DistinctIdeal (hKernelIdeal := hKernelIdeal) (hDistinctIdeal := hDistinctIdeal)
    ∧ algebraic_KernelIdeal_ReferenceIdeal_on_untied (hKernelIdeal := hKernelIdeal) (hReferenceIdeal := hReferenceIdeal) (hOn_untied := hOn_untied)
    ∧ algebraic_DistinctIdeal_ReferenceIdeal_pre_distinct_top (hDistinctIdeal := hDistinctIdeal) (hReferenceIdeal := hReferenceIdeal) (hPre_distinct_top := hPre_distinct_top)
-- ==== On_untied.lean ====
abbrev S256x16384 : Shape := ⟨2, ![256, 16384]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256x1 : Shape := ⟨2, ![256, 1]⟩

class Facts : Prop where
  slices_S256x16384_S256x8_0_0 : S256x16384.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S_S256x1 : S_.BroadcastsInDim S256x1 (![] : Fin 0 → Fin S256x1.rank)
  slices_S256x7_S256x1_0_0 : S256x7.Slices ![0, 0] S256x1
  slices_S256x7_S256x1_0_1 : S256x7.Slices ![0, 1] S256x1
  slices_S256x7_S256x1_0_2 : S256x7.Slices ![0, 2] S256x1
  slices_S256x7_S256x1_0_3 : S256x7.Slices ![0, 3] S256x1
  slices_S256x7_S256x1_0_4 : S256x7.Slices ![0, 4] S256x1
  slices_S256x7_S256x1_0_5 : S256x7.Slices ![0, 5] S256x1
  slices_S256x7_S256x1_0_6 : S256x7.Slices ![0, 6] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x16384_S256x8x1_S256x8_n_1_0_0_1_2_11_wf : GatherDims.WF S256x16384 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x16384_S256x8x1_S256x8_n_1_0_0_1_2_11 : GatherDims S256x16384 S256x8x1 S256x8 where
  offsetDims := []
  collapsedSliceDims := [1]
  operandBatchingDims := [0]
  startIndicesBatchingDims := [0]
  startIndexMap := [1]
  indexVectorDim := 2
  sliceSizes := ![1, 1]
  wf := gather_S256x16384_S256x8x1_S256x8_n_1_0_0_1_2_11_wf

def fn_argsort {F : FTy → Type} [FloatOps F] (arg0 : FVec F S256x16384 .f32) : IVec S256x16384 32 :=
  let v0 : IVec S256x16384 32 := iotaInDim S256x16384 32 1
  let v1_0 : FVec F S256x16384 .f32 := (fun x y => (Host.sort2 S256x16384 1 comparator_f32_i32_d1 x y).1) arg0 v0
  let v1_1 : IVec S256x16384 32 := (fun x y => (Host.sort2 S256x16384 1 comparator_f32_i32_d1 x y).2) arg0 v0
  v1_1

def fn_take_along_axis {F : FTy → Type} [FloatOps F] (arg0 : FVec F S256x16384 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 16384#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 16383#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x16384_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn {F : FTy → Type} [FloatOps F] (main_arg0 : FVec F S256x16384 .f32) : IVec S256x8 1 :=
  let main_v0 : FVec F S256x16384 .f32 := Host.negf main_arg0
  let main_v1 : IVec S256x16384 32 := fn_argsort (F := F) main_v0
  let main_v2 : IVec S256x8 32 := (extractStridedSlice S256x8 ![0, 0] · slices_S256x16384_S256x8_0_0) main_v1
  let main_v3 : FVec F S256x8 .f32 := fn_take_along_axis (F := F) main_arg0 main_v2
  let main_v4 : FVec F S256x7 .f32 := (extractStridedSlice S256x7 ![0, 1] · slices_S256x8_S256x7_0_1) main_v3
  let main_v5 : FVec F S256x7 .f32 := (extractStridedSlice S256x7 ![0, 0] · slices_S256x8_S256x7_0_0) main_v3
  let main_v6 : IVec S256x7 1 := cmpf .une main_v4 main_v5
  let main_c : IVec S_ 1 := constantI S_ 1 1#1
  let main_v7 : IVec S256x1 1 := broadcastInDim S256x1 ![] bcast_S_S256x1 main_c
  let main_v8 : IVec S256x1 1 := (extractStridedSlice S256x1 ![0, 0] · slices_S256x7_S256x1_0_0) main_v6
  let main_v9 : IVec S256x1 1 := andi main_v7 main_v8
  let main_v10 : IVec S256x1 1 := (extractStridedSlice S256x1 ![0, 1] · slices_S256x7_S256x1_0_1) main_v6
  let main_v11 : IVec S256x1 1 := andi main_v9 main_v10
  let main_v12 : IVec S256x1 1 := (extractStridedSlice S256x1 ![0, 2] · slices_S256x7_S256x1_0_2) main_v6
  let main_v13 : IVec S256x1 1 := andi main_v11 main_v12
  let main_v14 : IVec S256x1 1 := (extractStridedSlice S256x1 ![0, 3] · slices_S256x7_S256x1_0_3) main_v6
  let main_v15 : IVec S256x1 1 := andi main_v13 main_v14
  let main_v16 : IVec S256x1 1 := (extractStridedSlice S256x1 ![0, 4] · slices_S256x7_S256x1_0_4) main_v6
  let main_v17 : IVec S256x1 1 := andi main_v15 main_v16
  let main_v18 : IVec S256x1 1 := (extractStridedSlice S256x1 ![0, 5] · slices_S256x7_S256x1_0_5) main_v6
  let main_v19 : IVec S256x1 1 := andi main_v17 main_v18
  let main_v20 : IVec S256x1 1 := (extractStridedSlice S256x1 ![0, 6] · slices_S256x7_S256x1_0_6) main_v6
  let main_v21 : IVec S256x1 1 := andi main_v19 main_v20
  let main_v22 : IVec S256x8 1 := concatenate S256x8 1 [⟨S256x1, main_v7⟩, ⟨S256x1, main_v9⟩, ⟨S256x1, main_v11⟩, ⟨S256x1, main_v13⟩, ⟨S256x1, main_v15⟩, ⟨S256x1, main_v17⟩, ⟨S256x1, main_v19⟩, ⟨S256x1, main_v21⟩] concatenates_S256x1_S256x1_S256x1_S256x1_S256x1_S256x1_S256x1_S256x1_S256x8_d1
  main_v22
-- ==== Pre_distinct_top.lean ====
abbrev S256x16384 : Shape := ⟨2, ![256, 16384]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩

class Facts : Prop where
  slices_S256x16384_S256x8_0_0 : S256x16384.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  gather_S256x16384_S256x8x1_S256x8_n_1_0_0_1_2_11_wf : GatherDims.WF S256x16384 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x16384_S256x8x1_S256x8_n_1_0_0_1_2_11 : GatherDims S256x16384 S256x8x1 S256x8 where
  offsetDims := []
  collapsedSliceDims := [1]
  operandBatchingDims := [0]
  startIndicesBatchingDims := [0]
  startIndexMap := [1]
  indexVectorDim := 2
  sliceSizes := ![1, 1]
  wf := gather_S256x16384_S256x8x1_S256x8_n_1_0_0_1_2_11_wf

def fn_argsort {F : FTy → Type} [FloatOps F] (arg0 : FVec F S256x16384 .f32) : IVec S256x16384 32 :=
  let v0 : IVec S256x16384 32 := iotaInDim S256x16384 32 1
  let v1_0 : FVec F S256x16384 .f32 := (fun x y => (Host.sort2 S256x16384 1 comparator_f32_i32_d1 x y).1) arg0 v0
  let v1_1 : IVec S256x16384 32 := (fun x y => (Host.sort2 S256x16384 1 comparator_f32_i32_d1 x y).2) arg0 v0
  v1_1

def fn_take_along_axis {F : FTy → Type} [FloatOps F] (arg0 : FVec F S256x16384 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 16384#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 16383#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x16384_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn {F : FTy → Type} [FloatOps F] (main_arg0 : FVec F S256x16384 .f32) : IVec S256x7 1 :=
  let main_v0 : FVec F S256x16384 .f32 := Host.negf main_arg0
  let main_v1 : IVec S256x16384 32 := fn_argsort (F := F) main_v0
  let main_v2 : IVec S256x8 32 := (extractStridedSlice S256x8 ![0, 0] · slices_S256x16384_S256x8_0_0) main_v1
  let main_v3 : FVec F S256x8 .f32 := fn_take_along_axis (F := F) main_arg0 main_v2
  let main_v4 : FVec F S256x7 .f32 := (extractStridedSlice S256x7 ![0, 1] · slices_S256x8_S256x7_0_1) main_v3
  let main_v5 : FVec F S256x7 .f32 := (extractStridedSlice S256x7 ![0, 0] · slices_S256x8_S256x7_0_0) main_v3
  let main_v6 : IVec S256x7 1 := cmpf .une main_v4 main_v5
  main_v6
-- ==== Kernel.lean ====
abbrev S256x1024 : Shape := ⟨2, ![256, 1024]⟩
abbrev S256x8 : Shape := ⟨2, ![256, 8]⟩
abbrev S16x8x256 : Shape := ⟨3, ![16, 8, 256]⟩
abbrev S15 : Shape := ⟨1, ![15]⟩
abbrev S_ : Shape := ⟨0, ![]⟩
abbrev S256 : Shape := ⟨1, ![256]⟩
abbrev S1x1x256 : Shape := ⟨3, ![1, 1, 256]⟩
abbrev S256x1 : Shape := ⟨2, ![256, 1]⟩
abbrev S1 : Shape := ⟨1, ![1]⟩
abbrev S1x8x256 : Shape := ⟨3, ![1, 8, 256]⟩
abbrev S8x256 : Shape := ⟨2, ![8, 256]⟩
abbrev S128x256 : Shape := ⟨2, ![128, 256]⟩
abbrev S1x256 : Shape := ⟨2, ![1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S16x8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_167 : BitVec 32 := 1#32
  let v268 : BitVec 32 := Scalar.addi v2 c1_i32_167
  let c16_i32_168 : BitVec 32 := 16#32
  let c0_i32_169 : BitVec 32 := 0#32
  let v269 : BitVec 1 := Scalar.cmpi .eq c16_i32_168 c0_i32_169
  let c1_i32_170 : BitVec 32 := 1#32
  let v270 : BitVec 32 := Scalar.select v269 c1_i32_170 c16_i32_168
  let v271 : BitVec 32 := Scalar.remsi v268 v270
  let c0_i32_172 : BitVec 32 := 0#32
  let v273 : BitVec 1 := Scalar.cmpi .slt v271 c0_i32_172
  let c0_i32_173 : BitVec 32 := 0#32
  let v274 : BitVec 1 := Scalar.cmpi .slt v270 c0_i32_173
  let v275 : BitVec 1 := Scalar.xori v273 v274
  let c0_i32_171 : BitVec 32 := 0#32
  let v272 : BitVec 1 := Scalar.cmpi .ne v271 c0_i32_171
  let v276 : BitVec 1 := Scalar.andi v275 v272
  let v277 : BitVec 32 := Scalar.addi v271 v270
  let v278 : BitVec 32 := Scalar.select v276 v277 v271
  let c1_i32_178 : BitVec 32 := 1#32
  let v279 : BitVec 32 := Scalar.muli v278 c1_i32_178
  let v280 : BitVec 32 := Scalar.addi c0_i32_179 v279
  v280.toNat
def k0_dev17 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_184 : BitVec 32 := 2#32
  let v289 : BitVec 32 := Scalar.addi v2 c2_i32_184
  let c16_i32_185 : BitVec 32 := 16#32
  let c0_i32_186 : BitVec 32 := 0#32
  let v290 : BitVec 1 := Scalar.cmpi .eq c16_i32_185 c0_i32_186
  let c1_i32_187 : BitVec 32 := 1#32
  let v291 : BitVec 32 := Scalar.select v290 c1_i32_187 c16_i32_185
  let v292 : BitVec 32 := Scalar.remsi v289 v291
  let c0_i32_189 : BitVec 32 := 0#32
  let v294 : BitVec 1 := Scalar.cmpi .slt v292 c0_i32_189
  let c0_i32_190 : BitVec 32 := 0#32
  let v295 : BitVec 1 := Scalar.cmpi .slt v291 c0_i32_190
  let v296 : BitVec 1 := Scalar.xori v294 v295
  let c0_i32_188 : BitVec 32 := 0#32
  let v293 : BitVec 1 := Scalar.cmpi .ne v292 c0_i32_188
  let v297 : BitVec 1 := Scalar.andi v296 v293
  let v298 : BitVec 32 := Scalar.addi v292 v291
  let v299 : BitVec 32 := Scalar.select v297 v298 v292
  let c1_i32_195 : BitVec 32 := 1#32
  let v300 : BitVec 32 := Scalar.muli v299 c1_i32_195
  let v301 : BitVec 32 := Scalar.addi c0_i32_196 v300
  v301.toNat
def k0_dev18 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_201 : BitVec 32 := 3#32
  let v310 : BitVec 32 := Scalar.addi v2 c3_i32_201
  let c16_i32_202 : BitVec 32 := 16#32
  let c0_i32_203 : BitVec 32 := 0#32
  let v311 : BitVec 1 := Scalar.cmpi .eq c16_i32_202 c0_i32_203
  let c1_i32_204 : BitVec 32 := 1#32
  let v312 : BitVec 32 := Scalar.select v311 c1_i32_204 c16_i32_202
  let v313 : BitVec 32 := Scalar.remsi v310 v312
  let c0_i32_206 : BitVec 32 := 0#32
  let v315 : BitVec 1 := Scalar.cmpi .slt v313 c0_i32_206
  let c0_i32_207 : BitVec 32 := 0#32
  let v316 : BitVec 1 := Scalar.cmpi .slt v312 c0_i32_207
  let v317 : BitVec 1 := Scalar.xori v315 v316
  let c0_i32_205 : BitVec 32 := 0#32
  let v314 : BitVec 1 := Scalar.cmpi .ne v313 c0_i32_205
  let v318 : BitVec 1 := Scalar.andi v317 v314
  let v319 : BitVec 32 := Scalar.addi v313 v312
  let v320 : BitVec 32 := Scalar.select v318 v319 v313
  let c1_i32_212 : BitVec 32 := 1#32
  let v321 : BitVec 32 := Scalar.muli v320 c1_i32_212
  let v322 : BitVec 32 := Scalar.addi c0_i32_213 v321
  v322.toNat
def k0_dev19 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_218 : BitVec 32 := 4#32
  let v331 : BitVec 32 := Scalar.addi v2 c4_i32_218
  let c16_i32_219 : BitVec 32 := 16#32
  let c0_i32_220 : BitVec 32 := 0#32
  let v332 : BitVec 1 := Scalar.cmpi .eq c16_i32_219 c0_i32_220
  let c1_i32_221 : BitVec 32 := 1#32
  let v333 : BitVec 32 := Scalar.select v332 c1_i32_221 c16_i32_219
  let v334 : BitVec 32 := Scalar.remsi v331 v333
  let c0_i32_223 : BitVec 32 := 0#32
  let v336 : BitVec 1 := Scalar.cmpi .slt v334 c0_i32_223
  let c0_i32_224 : BitVec 32 := 0#32
  let v337 : BitVec 1 := Scalar.cmpi .slt v333 c0_i32_224
  let v338 : BitVec 1 := Scalar.xori v336 v337
  let c0_i32_222 : BitVec 32 := 0#32
  let v335 : BitVec 1 := Scalar.cmpi .ne v334 c0_i32_222
  let v339 : BitVec 1 := Scalar.andi v338 v335
  let v340 : BitVec 32 := Scalar.addi v334 v333
  let v341 : BitVec 32 := Scalar.select v339 v340 v334
  let c1_i32_229 : BitVec 32 := 1#32
  let v342 : BitVec 32 := Scalar.muli v341 c1_i32_229
  let v343 : BitVec 32 := Scalar.addi c0_i32_230 v342
  v343.toNat
def k0_dev20 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_235 : BitVec 32 := 5#32
  let v352 : BitVec 32 := Scalar.addi v2 c5_i32_235
  let c16_i32_236 : BitVec 32 := 16#32
  let c0_i32_237 : BitVec 32 := 0#32
  let v353 : BitVec 1 := Scalar.cmpi .eq c16_i32_236 c0_i32_237
  let c1_i32_238 : BitVec 32 := 1#32
  let v354 : BitVec 32 := Scalar.select v353 c1_i32_238 c16_i32_236
  let v355 : BitVec 32 := Scalar.remsi v352 v354
  let c0_i32_240 : BitVec 32 := 0#32
  let v357 : BitVec 1 := Scalar.cmpi .slt v355 c0_i32_240
  let c0_i32_241 : BitVec 32 := 0#32
  let v358 : BitVec 1 := Scalar.cmpi .slt v354 c0_i32_241
  let v359 : BitVec 1 := Scalar.xori v357 v358
  let c0_i32_239 : BitVec 32 := 0#32
  let v356 : BitVec 1 := Scalar.cmpi .ne v355 c0_i32_239
  let v360 : BitVec 1 := Scalar.andi v359 v356
  let v361 : BitVec 32 := Scalar.addi v355 v354
  let v362 : BitVec 32 := Scalar.select v360 v361 v355
  let c1_i32_246 : BitVec 32 := 1#32
  let v363 : BitVec 32 := Scalar.muli v362 c1_i32_246
  let v364 : BitVec 32 := Scalar.addi c0_i32_247 v363
  v364.toNat
def k0_dev21 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_252 : BitVec 32 := 6#32
  let v373 : BitVec 32 := Scalar.addi v2 c6_i32_252
  let c16_i32_253 : BitVec 32 := 16#32
  let c0_i32_254 : BitVec 32 := 0#32
  let v374 : BitVec 1 := Scalar.cmpi .eq c16_i32_253 c0_i32_254
  let c1_i32_255 : BitVec 32 := 1#32
  let v375 : BitVec 32 := Scalar.select v374 c1_i32_255 c16_i32_253
  let v376 : BitVec 32 := Scalar.remsi v373 v375
  let c0_i32_257 : BitVec 32 := 0#32
  let v378 : BitVec 1 := Scalar.cmpi .slt v376 c0_i32_257
  let c0_i32_258 : BitVec 32 := 0#32
  let v379 : BitVec 1 := Scalar.cmpi .slt v375 c0_i32_258
  let v380 : BitVec 1 := Scalar.xori v378 v379
  let c0_i32_256 : BitVec 32 := 0#32
  let v377 : BitVec 1 := Scalar.cmpi .ne v376 c0_i32_256
  let v381 : BitVec 1 := Scalar.andi v380 v377
  let v382 : BitVec 32 := Scalar.addi v376 v375
  let v383 : BitVec 32 := Scalar.select v381 v382 v376
  let c1_i32_263 : BitVec 32 := 1#32
  let v384 : BitVec 32 := Scalar.muli v383 c1_i32_263
  let v385 : BitVec 32 := Scalar.addi c0_i32_264 v384
  v385.toNat
def k0_dev22 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_269 : BitVec 32 := 7#32
  let v394 : BitVec 32 := Scalar.addi v2 c7_i32_269
  let c16_i32_270 : BitVec 32 := 16#32
  let c0_i32_271 : BitVec 32 := 0#32
  let v395 : BitVec 1 := Scalar.cmpi .eq c16_i32_270 c0_i32_271
  let c1_i32_272 : BitVec 32 := 1#32
  let v396 : BitVec 32 := Scalar.select v395 c1_i32_272 c16_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_280 : BitVec 32 := 1#32
  let v405 : BitVec 32 := Scalar.muli v404 c1_i32_280
  let v406 : BitVec 32 := Scalar.addi c0_i32_281 v405
  v406.toNat
def k0_dev23 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v415 : BitVec 32 := Scalar.addi v2 c8_i32_286
  let c16_i32_287 : BitVec 32 := 16#32
  let c0_i32_288 : BitVec 32 := 0#32
  let v416 : BitVec 1 := Scalar.cmpi .eq c16_i32_287 c0_i32_288
  let c1_i32_289 : BitVec 32 := 1#32
  let v417 : BitVec 32 := Scalar.select v416 c1_i32_289 c16_i32_287
  let v418 : BitVec 32 := Scalar.remsi v415 v417
  let c0_i32_291 : BitVec 32 := 0#32
  let v420 : BitVec 1 := Scalar.cmpi .slt v418 c0_i32_291
  let c0_i32_292 : BitVec 32 := 0#32
  let v421 : BitVec 1 := Scalar.cmpi .slt v417 c0_i32_292
  let v422 : BitVec 1 := Scalar.xori v420 v421
  let c0_i32_290 : BitVec 32 := 0#32
  let v419 : BitVec 1 := Scalar.cmpi .ne v418 c0_i32_290
  let v423 : BitVec 1 := Scalar.andi v422 v419
  let v424 : BitVec 32 := Scalar.addi v418 v417
  let v425 : BitVec 32 := Scalar.select v423 v424 v418
  let c1_i32_297 : BitVec 32 := 1#32
  let v426 : BitVec 32 := Scalar.muli v425 c1_i32_297
  let v427 : BitVec 32 := Scalar.addi c0_i32_298 v426
  v427.toNat
def k0_dev24 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_303 : BitVec 32 := 9#32
  let v436 : BitVec 32 := Scalar.addi v2 c9_i32_303
  let c16_i32_304 : BitVec 32 := 16#32
  let c0_i32_305 : BitVec 32 := 0#32
  let v437 : BitVec 1 := Scalar.cmpi .eq c16_i32_304 c0_i32_305
  let c1_i32_306 : BitVec 32 := 1#32
  let v438 : BitVec 32 := Scalar.select v437 c1_i32_306 c16_i32_304
  let v439 : BitVec 32 := Scalar.remsi v436 v438
  let c0_i32_308 : BitVec 32 := 0#32
  let v441 : BitVec 1 := Scalar.cmpi .slt v439 c0_i32_308
  let c0_i32_309 : BitVec 32 := 0#32
  let v442 : BitVec 1 := Scalar.cmpi .slt v438 c0_i32_309
  let v443 : BitVec 1 := Scalar.xori v441 v442
  let c0_i32_307 : BitVec 32 := 0#32
  let v440 : BitVec 1 := Scalar.cmpi .ne v439 c0_i32_307
  let v444 : BitVec 1 := Scalar.andi v443 v440
  let v445 : BitVec 32 := Scalar.addi v439 v438
  let v446 : BitVec 32 := Scalar.select v444 v445 v439
  let c1_i32_314 : BitVec 32 := 1#32
  let v447 : BitVec 32 := Scalar.muli v446 c1_i32_314
  let v448 : BitVec 32 := Scalar.addi c0_i32_315 v447
  v448.toNat
def k0_dev25 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_320 : BitVec 32 := 10#32
  let v457 : BitVec 32 := Scalar.addi v2 c10_i32_320
  let c16_i32_321 : BitVec 32 := 16#32
  let c0_i32_322 : BitVec 32 := 0#32
  let v458 : BitVec 1 := Scalar.cmpi .eq c16_i32_321 c0_i32_322
  let c1_i32_323 : BitVec 32 := 1#32
  let v459 : BitVec 32 := Scalar.select v458 c1_i32_323 c16_i32_321
  let v460 : BitVec 32 := Scalar.remsi v457 v459
  let c0_i32_325 : BitVec 32 := 0#32
  let v462 : BitVec 1 := Scalar.cmpi .slt v460 c0_i32_325
  let c0_i32_326 : BitVec 32 := 0#32
  let v463 : BitVec 1 := Scalar.cmpi .slt v459 c0_i32_326
  let v464 : BitVec 1 := Scalar.xori v462 v463
  let c0_i32_324 : BitVec 32 := 0#32
  let v461 : BitVec 1 := Scalar.cmpi .ne v460 c0_i32_324
  let v465 : BitVec 1 := Scalar.andi v464 v461
  let v466 : BitVec 32 := Scalar.addi v460 v459
  let v467 : BitVec 32 := Scalar.select v465 v466 v460
  let c1_i32_331 : BitVec 32 := 1#32
  let v468 : BitVec 32 := Scalar.muli v467 c1_i32_331
  let v469 : BitVec 32 := Scalar.addi c0_i32_332 v468
  v469.toNat
def k0_dev26 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_337 : BitVec 32 := 11#32
  let v478 : BitVec 32 := Scalar.addi v2 c11_i32_337
  let c16_i32_338 : BitVec 32 := 16#32
  let c0_i32_339 : BitVec 32 := 0#32
  let v479 : BitVec 1 := Scalar.cmpi .eq c16_i32_338 c0_i32_339
  let c1_i32_340 : BitVec 32 := 1#32
  let v480 : BitVec 32 := Scalar.select v479 c1_i32_340 c16_i32_338
  let v481 : BitVec 32 := Scalar.remsi v478 v480
  let c0_i32_342 : BitVec 32 := 0#32
  let v483 : BitVec 1 := Scalar.cmpi .slt v481 c0_i32_342
  let c0_i32_343 : BitVec 32 := 0#32
  let v484 : BitVec 1 := Scalar.cmpi .slt v480 c0_i32_343
  let v485 : BitVec 1 := Scalar.xori v483 v484
  let c0_i32_341 : BitVec 32 := 0#32
  let v482 : BitVec 1 := Scalar.cmpi .ne v481 c0_i32_341
  let v486 : BitVec 1 := Scalar.andi v485 v482
  let v487 : BitVec 32 := Scalar.addi v481 v480
  let v488 : BitVec 32 := Scalar.select v486 v487 v481
  let c1_i32_348 : BitVec 32 := 1#32
  let v489 : BitVec 32 := Scalar.muli v488 c1_i32_348
  let v490 : BitVec 32 := Scalar.addi c0_i32_349 v489
  v490.toNat
def k0_dev27 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_354 : BitVec 32 := 12#32
  let v499 : BitVec 32 := Scalar.addi v2 c12_i32_354
  let c16_i32_355 : BitVec 32 := 16#32
  let c0_i32_356 : BitVec 32 := 0#32
  let v500 : BitVec 1 := Scalar.cmpi .eq c16_i32_355 c0_i32_356
  let c1_i32_357 : BitVec 32 := 1#32
  let v501 : BitVec 32 := Scalar.select v500 c1_i32_357 c16_i32_355
  let v502 : BitVec 32 := Scalar.remsi v499 v501
  let c0_i32_359 : BitVec 32 := 0#32
  let v504 : BitVec 1 := Scalar.cmpi .slt v502 c0_i32_359
  let c0_i32_360 : BitVec 32 := 0#32
  let v505 : BitVec 1 := Scalar.cmpi .slt v501 c0_i32_360
  let v506 : BitVec 1 := Scalar.xori v504 v505
  let c0_i32_358 : BitVec 32 := 0#32
  let v503 : BitVec 1 := Scalar.cmpi .ne v502 c0_i32_358
  let v507 : BitVec 1 := Scalar.andi v506 v503
  let v508 : BitVec 32 := Scalar.addi v502 v501
  let v509 : BitVec 32 := Scalar.select v507 v508 v502
  let c1_i32_365 : BitVec 32 := 1#32
  let v510 : BitVec 32 := Scalar.muli v509 c1_i32_365
  let v511 : BitVec 32 := Scalar.addi c0_i32_366 v510
  v511.toNat
def k0_dev28 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_371 : BitVec 32 := 13#32
  let v520 : BitVec 32 := Scalar.addi v2 c13_i32_371
  let c16_i32_372 : BitVec 32 := 16#32
  let c0_i32_373 : BitVec 32 := 0#32
  let v521 : BitVec 1 := Scalar.cmpi .eq c16_i32_372 c0_i32_373
  let c1_i32_374 : BitVec 32 := 1#32
  let v522 : BitVec 32 := Scalar.select v521 c1_i32_374 c16_i32_372
  let v523 : BitVec 32 := Scalar.remsi v520 v522
  let c0_i32_376 : BitVec 32 := 0#32
  let v525 : BitVec 1 := Scalar.cmpi .slt v523 c0_i32_376
  let c0_i32_377 : BitVec 32 := 0#32
  let v526 : BitVec 1 := Scalar.cmpi .slt v522 c0_i32_377
  let v527 : BitVec 1 := Scalar.xori v525 v526
  let c0_i32_375 : BitVec 32 := 0#32
  let v524 : BitVec 1 := Scalar.cmpi .ne v523 c0_i32_375
  let v528 : BitVec 1 := Scalar.andi v527 v524
  let v529 : BitVec 32 := Scalar.addi v523 v522
  let v530 : BitVec 32 := Scalar.select v528 v529 v523
  let c1_i32_382 : BitVec 32 := 1#32
  let v531 : BitVec 32 := Scalar.muli v530 c1_i32_382
  let v532 : BitVec 32 := Scalar.addi c0_i32_383 v531
  v532.toNat
def k0_dev29 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_388 : BitVec 32 := 14#32
  let v541 : BitVec 32 := Scalar.addi v2 c14_i32_388
  let c16_i32_389 : BitVec 32 := 16#32
  let c0_i32_390 : BitVec 32 := 0#32
  let v542 : BitVec 1 := Scalar.cmpi .eq c16_i32_389 c0_i32_390
  let c1_i32_391 : BitVec 32 := 1#32
  let v543 : BitVec 32 := Scalar.select v542 c1_i32_391 c16_i32_389
  let v544 : BitVec 32 := Scalar.remsi v541 v543
  let c0_i32_393 : BitVec 32 := 0#32
  let v546 : BitVec 1 := Scalar.cmpi .slt v544 c0_i32_393
  let c0_i32_394 : BitVec 32 := 0#32
  let v547 : BitVec 1 := Scalar.cmpi .slt v543 c0_i32_394
  let v548 : BitVec 1 := Scalar.xori v546 v547
  let c0_i32_392 : BitVec 32 := 0#32
  let v545 : BitVec 1 := Scalar.cmpi .ne v544 c0_i32_392
  let v549 : BitVec 1 := Scalar.andi v548 v545
  let v550 : BitVec 32 := Scalar.addi v544 v543
  let v551 : BitVec 32 := Scalar.select v549 v550 v544
  let c1_i32_399 : BitVec 32 := 1#32
  let v552 : BitVec 32 := Scalar.muli v551 c1_i32_399
  let v553 : BitVec 32 := Scalar.addi c0_i32_400 v552
  v553.toNat
def k0_dev30 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_405 : BitVec 32 := 15#32
  let v562 : BitVec 32 := Scalar.addi v2 c15_i32_405
  let c16_i32_406 : BitVec 32 := 16#32
  let c0_i32_407 : BitVec 32 := 0#32
  let v563 : BitVec 1 := Scalar.cmpi .eq c16_i32_406 c0_i32_407
  let c1_i32_408 : BitVec 32 := 1#32
  let v564 : BitVec 32 := Scalar.select v563 c1_i32_408 c16_i32_406
  let v565 : BitVec 32 := Scalar.remsi v562 v564
  let c0_i32_410 : BitVec 32 := 0#32
  let v567 : BitVec 1 := Scalar.cmpi .slt v565 c0_i32_410
  let c0_i32_411 : BitVec 32 := 0#32
  let v568 : BitVec 1 := Scalar.cmpi .slt v564 c0_i32_411
  let v569 : BitVec 1 := Scalar.xori v567 v568
  let c0_i32_409 : BitVec 32 := 0#32
  let v566 : BitVec 1 := Scalar.cmpi .ne v565 c0_i32_409
  let v570 : BitVec 1 := Scalar.andi v569 v566
  let v571 : BitVec 32 := Scalar.addi v565 v564
  let v572 : BitVec 32 := Scalar.select v570 v571 v565
  let c1_i32_416 : BitVec 32 := 1#32
  let v573 : BitVec 32 := Scalar.muli v572 c1_i32_416
  let v574 : BitVec 32 := Scalar.addi c0_i32_417 v573
  v574.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== DistinctIdeal.lean ====
abbrev S256x16384 : Shape := ⟨2, ![256, 16384]⟩
abbrev S_ : Shape := ⟨0, ![]⟩
abbrev S256 : Shape := ⟨1, ![256]⟩
abbrev S256x1 : Shape := ⟨2, ![256, 1]⟩
abbrev S256x8 : Shape := ⟨2, ![256, 8]⟩

abbrev nBuf : Space → Nat
  | .hbm => 68
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S_, .f32⟩
  | .hbm, ⟨2, _⟩ => ⟨S256, .f32⟩
  | .hbm, ⟨3, _⟩ => ⟨S256x1, .f32⟩
  | .hbm, ⟨4, _⟩ => ⟨S256x16384, .f32⟩
  | .hbm, ⟨5, _⟩ => ⟨S256x16384, .i1⟩
  | .hbm, ⟨6, _⟩ => ⟨S_, .f32⟩
  | .hbm, ⟨7, _⟩ => ⟨S_, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x16384, .f32⟩
  | .hbm, ⟨14, _⟩ => ⟨S256x16384, .i1⟩
  | .hbm, ⟨15, _⟩ => ⟨S_, .f32⟩
  | .hbm, ⟨16, _⟩ => ⟨S_, .f32⟩
  | .hbm, ⟨17, _⟩ => ⟨S256x16384, .f32⟩
  | .hbm, ⟨18, _⟩ => ⟨S256x16384, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S256x16384, .f32⟩
  | .hbm, ⟨23, _⟩ => ⟨S256x16384, .i1⟩
  | .hbm, ⟨24, _⟩ => ⟨S_, .f32⟩
  | .hbm, ⟨25, _⟩ => ⟨S_, .f32⟩
  | .hbm, ⟨26, _⟩ => ⟨S256x16384, .f32⟩
  | .hbm, ⟨27, _⟩ => ⟨S256x16384, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S256x16384, .f32⟩
  | .hbm, ⟨32, _⟩ => ⟨S256x16384, .i1⟩
  | .hbm, ⟨33, _⟩ => ⟨S_, .f32⟩
  | .hbm, ⟨34, _⟩ => ⟨S_, .f32⟩
  | .hbm, ⟨35, _⟩ => ⟨S256x16384, .f32⟩
  | .hbm, ⟨36, _⟩ => ⟨S256x16384, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S256x16384, .f32⟩
  | .hbm, ⟨41, _⟩ => ⟨S256x16384, .i1⟩
  | .hbm, ⟨42, _⟩ => ⟨S_, .f32⟩
  | .hbm, ⟨43, _⟩ => ⟨S_, .f32⟩
  | .hbm, ⟨44, _⟩ => ⟨S256x16384, .f32⟩
  | .hbm, ⟨45, _⟩ => ⟨S256x16384, .f32⟩
  | .hbm, ⟨46, _⟩ => ⟨S_, .f32⟩
  | .hbm, ⟨47, _⟩ => ⟨S256, .f32⟩
  | .hbm, ⟨48, _⟩ => ⟨S256x1, .f32⟩
  | .hbm, ⟨49, _⟩ => ⟨S256x16384, .f32⟩
  | .hbm, ⟨50, _⟩ => ⟨S256x16384, .i1⟩
  | .hbm, ⟨51, _⟩ => ⟨S_, .f32⟩
  | .hbm, ⟨52, _⟩ => ⟨S_, .f32⟩
  | .hbm, ⟨53, _⟩ => ⟨S256x16384, .f32⟩
  | .hbm, ⟨54, _⟩ => ⟨S256x16384, .f32⟩
  | .hbm, ⟨55, _⟩ => ⟨S_, .f32⟩
  | .hbm, ⟨56, _⟩ => ⟨S256, .f32⟩
  | .hbm, ⟨57, _⟩ => ⟨S256x1, .f32⟩
  | .hbm, ⟨58, _⟩ => ⟨S256x16384, .f32⟩
  | .hbm, ⟨59, _⟩ => ⟨S256x16384, .i1⟩
  | .hbm, ⟨60, _⟩ => ⟨S_, .f32⟩
  | .hbm, ⟨61, _⟩ => ⟨S_, .f32⟩
  | .hbm, ⟨62, _⟩ => ⟨S256x16384, .f32⟩
  | .hbm, ⟨63, _⟩ => ⟨S256x16384, .f32⟩
  | .hbm, ⟨64, _⟩ => ⟨S_, .f32⟩
  | .hbm, ⟨65, _⟩ => ⟨S256, .f32⟩
  | .hbm, ⟨66, _⟩ => ⟨S256x1, .f32⟩
  | .hbm, ⟨67, _⟩ => ⟨S256x8, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_call3_v0 : Ref sig .tc := ⟨.hbm, 34, rfl⟩
abbrev main_call3_v1 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_call4_v0 : Ref sig .tc := ⟨.hbm, 43, rfl⟩
abbrev main_call4_v1 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_call5_v0 : Ref sig .tc := ⟨.hbm, 52, rfl⟩
abbrev main_call5_v1 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_12 : Ref sig .tc := ⟨.hbm, 60, rfl⟩
abbrev main_call6_v0 : Ref sig .tc := ⟨.hbm, 61, rfl⟩
abbrev main_call6_v1 : Ref sig .tc := ⟨.hbm, 62, rfl⟩
abbrev main_v34 : Ref sig .tc := ⟨.hbm, 63, rfl⟩
abbrev main_cst_13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]
-- ==== ReferenceIdeal.lean ====
abbrev S256x16384 : Shape := ⟨2, ![256, 16384]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S256x16384, .i32⟩
  | .hbm, ⟨3, _⟩ => ⟨S256x16384, .f32⟩
  | .hbm, ⟨4, _⟩ => ⟨S256x16384, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Ideal.Common.lean ====
/-
# The exchange of the distributed top-8: its cells, contents and schedule

Sixteen devices. Device `c` handshakes with every other device on the runtime's barrier semaphore, computes
its own eight candidates of every row into slot 15 of its scratch array, copies that slot into slot `k` of the
device `k + 1` places after it for each `k < 15`, waits for its own fifteen copies and for the fifteen that
come in, and merges the sixteen slots.

Per semaphore, who pays it and with what:
* the barrier semaphore of `c`: fifteen duties of one unit, duty `k` paid by the device `k + 1` places BEFORE
  `c`. That device hands over its own slot `14 - k`, the slot `c` will copy into.
* send semaphore `k` of `c`: one duty, the credit of `c`'s own copy `k`. It returns one of fifteen shares of
  slot 15.
* receive semaphore `k` of `c`: one duty, the credit of the copy from the device `k + 1` places before `c`. It
  hands over slot `k` holding that device's candidates.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.Transfers
public import Idealize.ShloMosaic.Lib.Tactic

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The exchange's copy of the rounds algebra: duties are named by `Fin 15`. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Who sends to whom -/

set_option backward.proofsInPublic true in
/-- The device `k + 1` places after `c`. -/
def peer (c : Dev nD) (k : Fin 15) : Dev nD := ⟨(c.val + (k.val + 1)) % 16, Nat.mod_lt _ (by decide)⟩
set_option backward.proofsInPublic true in
/-- The index that goes back: `peer (peer c k) (rev k) = c`. -/
def rev (k : Fin 15) : Fin 15 := ⟨14 - k.val, by omega⟩

theorem rev_rev (k : Fin 15) : rev (rev k) = k := by revert k; decide
theorem peer_rev_peer (c : Dev nD) (k : Fin 15) : peer (peer c k) (rev k) = c := by revert c k; decide +kernel
theorem peer_peer_rev (c : Dev nD) (k : Fin 15) : peer (peer c (rev k)) k = c := by revert c k; decide +kernel

/-- Going back, as a permutation of the indices. -/
def revE : Fin 15 ≃ Fin 15 := ⟨rev, rev, rev_rev, rev_rev⟩
/-- Going `k + 1` places on, as a permutation of the devices. -/
def peerE (k : Fin 15) : Dev nD ≃ Dev nD := ⟨fun c => peer c k, fun c => peer c (rev k), fun c => peer_rev_peer c k, fun c => peer_peer_rev c k⟩

/-! ## The arrays and semaphores -/

abbrev xM : Memref sig .tc .vmem S256x1024 .f32 := Memref.whole cc0_stg0_0
abbrev oM : Memref sig .tc .vmem S256x8 .f32 := Memref.whole cc0_stg1_0
abbrev scM : Memref sig .tc .vmem S16x8x256 .f32 := Memref.whole cc0_scratch0

theorem inb_slot (s : Fin 16) : ∀ a, (![s.val, 0, 0] : Fin 3 → Nat) a + S1x8x256.size a ≤ S16x8x256.size a := by
  revert s; decide
theorem inb_sem (k : Fin 15) : ∀ a, (![k.val] : Fin 1 → Nat) a + S1.size a ≤ S15.size a := by revert k; decide

/-- The rectangle of slot `s` of the scratch array. -/
abbrev slotR (s : Fin 16) : Rect S16x8x256 := Rect.unit (s := S16x8x256) ![s.val, 0, 0] S1x8x256.size (inb_slot s)
/-- Slot `s` of the scratch array, as the copies name it. -/
abbrev slotM (s : Fin 16) : Memref sig .tc .vmem S8x256 .f32 :=
  (scM.slice (slotR s) (fun _ => rfl)).squeeze S8x256 squeezes_S1x8x256_S8x256

abbrev barS : Sem sig := (SemArray.scalar (sig.barrier 0 rfl) : Sems sig S_).sem
def sendS (k : Fin 15) : DmaSem sig := ((cc0_scratch1.slice (Rect.unit (s := S15) ![k.val] S1.size (inb_sem k))).squeeze S_ squeezes_S1_S_).sem
def recvS (k : Fin 15) : DmaSem sig := ((cc0_scratch2.slice (Rect.unit (s := S15) ![k.val] S1.size (inb_sem k))).squeeze S_ squeezes_S1_S_).sem

/-- The kinds of semaphore: the barrier (`none`), send `k` (`(false, k)`), receive `k` (`(true, k)`). -/
abbrev Kd := Option (Bool × Fin 15)

/-- The kernel's own semaphores. -/
def osem (x : Bool × Fin 15) : SemLoc sig := if x.1 then .dma (recvS x.2) else .dma (sendS x.2)
/-- All the exchange's semaphores. -/
def csem : Kd → SemLoc sig
  | none => .reg barS
  | some x => osem x
abbrev kcell (ck : Dev nD × Kd) : GSem nD τ sig := ((ck.1 : Thread nD τ), csem ck.2)

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- Which kind a semaphore is. -/
def kindOf : SemLoc sig → Option Kd
  | .reg s => if s = barS then some none else none
  | .dma s => if h : 2 ≤ s.val ∧ s.val < 17 then some (some (false, ⟨s.val - 2, by omega⟩))
      else if h : 17 ≤ s.val ∧ s.val < 32 then some (some (true, ⟨s.val - 17, by omega⟩)) else none

theorem kindOf_bar : kindOf (.reg barS) = some none := by decide
theorem kindOf_send (k : Fin 15) : kindOf (.dma (sendS k)) = some (some (false, k)) := by revert k; decide +kernel
theorem kindOf_recv (k : Fin 15) : kindOf (.dma (recvS k)) = some (some (true, k)) := by revert k; decide +kernel
theorem kindOf_csem (x : Kd) : kindOf (csem x) = some x := by
  rcases x with _ | ⟨_ | _, k⟩
  · exact kindOf_bar
  · exact kindOf_send k
  · exact kindOf_recv k

theorem csem_injective : Function.Injective csem := fun a b h => by
  have := congrArg kindOf h
  rw [kindOf_csem, kindOf_csem] at this
  exact Option.some.inj this

/-- The credit of one copy of a slot. -/
abbrev N : ℕ := (slotM 0).view.dmaCredit
theorem N_pos : 0 < N := View.dmaCredit_pos _ (by decide)

/-! ## Contents -/

/-- What the input window of device `c` holds. -/
def xstg (c : Dev nD) : (cc0_stg0_0 : Ref sig .tc).ty.Contents (Elt F) :=
  (win0_0.blk (0 : Fin 1)).view.read (Elt F) ((s₀ m ρ).mem ((c : Thread nD τ).loc main_arg0))

/-- The `j`-th row of candidates as the body stores it, from its block of `x`. -/
def rowPay (x : Vec F S256x1024 .f32) : Fin 8 → Vec F S1x1x256 .f32 := fun j => match j with
  | 0 => k0_pay7 x
  | 1 => k0_pay10 x
  | 2 => k0_pay13 x
  | 3 => k0_pay16 (k0_pay14 x)
  | 4 => k0_pay19 (k0_pay14 x)
  | 5 => k0_pay22 (k0_pay14 x)
  | 6 => k0_pay25 (k0_pay14 x)
  | 7 => k0_pay27 (k0_pay26 (k0_pay14 x))

/-- Whose candidates slot `s` of device `c` ends with: `c`'s own in slot 15. -/
def src (c : Dev nD) (s : Fin 16) : Dev nD := if h : s.val < 15 then peer c (rev ⟨s.val, h⟩) else c

theorem src_last (c : Dev nD) : src c 15 = c := by revert c; decide
theorem src_peer (c : Dev nD) (k : Fin 15) : src (peer c k) k.castSucc = c := by revert c k; decide +kernel

/-- What the scratch array of device `c` ends with. -/
def cand (c : Dev nD) : (cc0_scratch0 : Ref sig .tc).ty.Contents (Elt F) :=
  fun i => rowPay (xstg m ρ (src c (i 0))) (i 1) (fun a => match a with | 0 => ⟨0, by decide⟩ | 1 => ⟨0, by decide⟩ | 2 => i 2)

/-- Ownership of slot `s` of device `c` at share `q` with contents `f`. -/
def slotPts (c : Dev nD) (s : Fin 16) (q : PosShare TreeShare) (f : (cc0_scratch0 : Ref sig .tc).ty.Contents (Elt F)) : sProp 𝕄 :=
  (slotM s).view.loc (c : Thread nD τ) ↦[(slotM s).view.set]{q} f

omit [FloatOps F] [Named F] in
instance slotPts_storable (c : Dev nD) (s : Fin 16) (q : PosShare TreeShare) (f) : BI.Storable (upEmb : UEmb _ 𝕄) (slotPts (F := F) c s q f) := by
  unfold slotPts; infer_instance

/-- The share of slot 15 lent to copy `k`. -/
def shr (k : Fin 15) : PosShare TreeShare := Transfers.dealOf fullShare Finset.univ k

/-! ## The schedule -/

/-- What the signal of duty `k` hands device `c`. -/
def barPay (c : Dev nD) (k : Fin 15) : sProp 𝕄 := iprop(∃ f, slotPts (F := F) (peer c (rev k)) (rev k).castSucc fullShare f)
def sendPay (c : Dev nD) (k : Fin 15) : sProp 𝕄 := slotPts c 15 (shr k) (cand m ρ c)
def recvPay (c : Dev nD) (k : Fin 15) : sProp 𝕄 := slotPts c k.castSucc fullShare (cand m ρ c)

/-- One round: see the head of this file. -/
def topRd : Rounds.Schedule (GSem nD τ sig) (Fin 15) 𝕄 where
  duties g r := if r = 0 ∧ g.1.2 = .tc then
      (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (false, k)) => sendPay m ρ g.1.1 k
    | some (some (true, k)) => recvPay m ρ g.1.1 k
    | none => iprop(emp)
  amount_pos g _ _ _ := by
    split
    · exact Nat.one_pos
    · exact N_pos

instance topRd_payload_storable (g : GSem nD τ sig) (r : ℕ) (d : Fin 15) :
    BI.Storable (upEmb : UEmb _ 𝕄) ((topRd (F := F) m ρ).payload g r d) := by
  dsimp only [topRd]
  unfold barPay sendPay recvPay
  split <;> infer_instance

section Tables
variable (c : Dev nD) (k : Fin 15)

theorem duties_bar : (topRd (F := F) m ρ).duties (barCell c) 0 = Finset.univ := by
  dsimp only [topRd]; rw [if_pos ⟨rfl, rfl⟩, kindOf_bar]
theorem duties_send : (topRd (F := F) m ρ).duties (sendCell c k) 0 = {0} := by
  dsimp only [topRd]; rw [if_pos ⟨rfl, rfl⟩, kindOf_send]
theorem duties_recv : (topRd (F := F) m ρ).duties (recvCell c k) 0 = {0} := by
  dsimp only [topRd]; rw [if_pos ⟨rfl, rfl⟩, kindOf_recv]
theorem duties_later (g : GSem nD τ sig) : ∀ r, 1 ≤ r → (topRd (F := F) m ρ).duties g r = ∅ :=
  fun r hr => by dsimp only [topRd]; exact if_neg fun h => by omega

theorem amount_bar (d : Fin 15) : (topRd (F := F) m ρ).amount (barCell c) 0 d = 1 := by
  dsimp only [topRd]; rw [kindOf_bar]
theorem amount_send (d : Fin 15) : (topRd (F := F) m ρ).amount (sendCell c k) 0 d = N := by
  dsimp only [topRd]; rw [kindOf_send]
theorem amount_recv (d : Fin 15) : (topRd (F := F) m ρ).amount (recvCell c k) 0 d = N := by
  dsimp only [topRd]; rw [kindOf_recv]

theorem expect_bar : (topRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (topRd (F := F) m ρ).expect (sendCell c k) 0 = N := by
  unfold Schedule.expect Schedule.amountOf; rw [duties_send, Finset.sum_singleton, amount_send]
theorem expect_recv : (topRd (F := F) m ρ).expect (recvCell c k) 0 = N := by
  unfold Schedule.expect Schedule.amountOf; rw [duties_recv, Finset.sum_singleton, amount_recv]

theorem payload_bar (d : Fin 15) : (topRd (F := F) m ρ).payload (barCell c) 0 d = barPay c d := by
  dsimp only [topRd]; rw [kindOf_bar]
theorem payload_send (d : Fin 15) : (topRd (F := F) m ρ).payload (sendCell c k) 0 d = sendPay m ρ c k := by
  dsimp only [topRd]; rw [kindOf_send]
theorem payload_recv (d : Fin 15) : (topRd (F := F) m ρ).payload (recvCell c k) 0 d = recvPay m ρ c k := by
  dsimp only [topRd]; rw [kindOf_recv]

/-- The barrier's round as its owner takes it: the slot of every peer that `c` copies into. -/
theorem rest_bar : bigSep ((topRd (F := F) m ρ).duties (barCell c) 0 \ ∅) (fun d => (topRd (F := F) m ρ).payload (barCell c) 0 d)
    = bigSep Finset.univ fun k : Fin 15 => iprop(∃ f, slotPts (F := F) (peer c k) k.castSucc fullShare f) := by
  rw [Finset.sdiff_empty, duties_bar, bigSep_univ_equiv revE fun k : Fin 15 => iprop(∃ f, slotPts (F := F) (peer c k) k.castSucc fullShare f)]
  exact bigSep_congr fun d _ => by rw [payload_bar]; rfl
theorem rest_send : bigSep ((topRd (F := F) m ρ).duties (sendCell c k) 0 \ ∅) (fun d => (topRd (F := F) m ρ).payload (sendCell c k) 0 d)
    = sendPay m ρ c k := by
  rw [Finset.sdiff_empty, duties_send, bigSep_singleton, payload_send]
theorem rest_recv : bigSep ((topRd (F := F) m ρ).duties (recvCell c k) 0 \ ∅) (fun d => (topRd (F := F) m ρ).payload (recvCell c k) 0 d)
    = recvPay m ρ c k := by
  rw [Finset.sdiff_empty, duties_recv, bigSep_singleton, payload_recv]

end Tables

/-! ## What each device owes; the levels -/

/-- What `c` owes when the copies `i, …, 14` remain. -/
def sndO (c : Dev nD) (i : ℕ) : CellTallies nD τ sig Unit :=
  ∑ k ∈ SparseCore.ProtocolKit.finFrom 15 i, tallyAt (recvCell (peer c k) k) () N
/-- What `c` owes when the signals `i, …, 14` and every copy remain. -/
def sigO (c : Dev nD) (i : ℕ) : CellTallies nD τ sig Unit :=
  sndO c 0 + ∑ k ∈ SparseCore.ProtocolKit.finFrom 15 i, tallyAt (barCell (peer c k)) () 1

end Cert.KernelIdeal.Top

end
-- ==== Proof.Ideal.Geom.lean ====
/-
# Where the slots, rows and columns lie

Slot `s` of the scratch array is the plane `i 0 = s`. The sixteen planes cover the array, so the whole array's
ownership is the slots' together. What a copy delivers, what a stored candidate row leaves and what a stored
result column leaves are said in terms of `cand` and `outAt`.
-/
module

public import proofs.«01_k».proof.Proof.Ideal.Common

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Slots -/

theorem mem_slot (s : Fin 16) (i : S16x8x256.Idx) : Iff (i ∈ (slotM s).view.set) ((i 0).val = s.val) := by
  have h : (slotM s).view.set = (slotR s).set := by
    exact (View.set_reshape _ _).trans (View.set_slice_whole _ _)
  rw [h, Rect.mem_set_unit]
  constructor
  · intro h
    have := h 0
    simp at this
    omega
  · intro h a
    fin_cases a
    · simp [h]
    · simpa using (i 1).isLt
    · simpa using (i 2).isLt

theorem slot_cover : (Finset.univ : Finset S16x8x256.Idx) = Finset.univ.biUnion fun s : Fin 16 => (slotM s).view.set := by
  ext i
  simp only [Finset.mem_univ, Finset.mem_biUnion, true_and, true_iff]
  exact ⟨i 0, (mem_slot _ i).mpr rfl⟩

theorem slot_disjoint (s t : Fin 16) (h : s ≠ t) : Disjoint (slotM s).view.set (slotM t).view.set :=
  Finset.disjoint_left.mpr fun i hs ht => h (Fin.ext (((mem_slot s i).mp hs).symm.trans ((mem_slot t i).mp ht)))

/-- The whole scratch array is its sixteen slots. -/
theorem scr_split (c : Dev nD) (f : (cc0_scratch0 : Ref sig .tc).ty.Contents (Elt F)) :
    ((((c : Thread nD τ).loc cc0_scratch0) ↦{fullShare} f : sProp 𝕄)) = bigSep Finset.univ fun s : Fin 16 => slotPts c s fullShare f := by
  unfold slotPts
  have h := pointsTo_biUnion (Ix := Unit) (Name := ℕ) (U := UU) (Lvl := ℕ) (q := fullShare) (ℓ := (c : Thread nD τ).loc cc0_scratch0) (f := f)
    (Finset.univ : Finset (Fin 16)) (fun s => (slotM s).view.set)
    (fun s _ t _ hst => slot_disjoint s t hst)
  rw [← slot_cover] at h
  exact h

/-- The same with the fifteen slots that peers write apart from slot 15. -/
theorem scr_split' (c : Dev nD) (f : (cc0_scratch0 : Ref sig .tc).ty.Contents (Elt F)) :
    ((((c : Thread nD τ).loc cc0_scratch0) ↦{fullShare} f : sProp 𝕄))
      = iprop((bigSep Finset.univ fun k : Fin 15 => slotPts c k.castSucc fullShare f) ∗ slotPts c 15 fullShare f) := by
  rw [scr_split, show (Finset.univ : Finset (Fin 16)) = insert 15 (Finset.univ.map (Fin.castSuccEmb (n := 15))) by decide,
    BI.bigSep_insert (by decide), bigSep_map]
  exact BI.Entails.antisymm sep_comm sep_comm

/-- Slot 15 lent out in fifteen shares. -/
theorem slot_deal (c : Dev nD) (f : (cc0_scratch0 : Ref sig .tc).ty.Contents (Elt F)) :
    slotPts (F := F) c 15 fullShare f = bigSep Finset.univ fun k : Fin 15 => slotPts c 15 (shr k) f := by
  unfold slotPts shr
  exact Transfers.pointsTo_deal Finset.univ ⟨0, Finset.mem_univ _⟩ fullShare

theorem slotPts_congr (c : Dev nD) (s : Fin 16) (q : PosShare TreeShare) (f g : (cc0_scratch0 : Ref sig .tc).ty.Contents (Elt F))
    (h : ∀ i : S16x8x256.Idx, (i 0).val = s.val → f i = g i) : slotPts (F := F) c s q f = slotPts c s q g := by
  unfold slotPts
  exact pointsTo_congr fun i hi => h i ((mem_slot s i).mp hi)

/-! ## What a copy delivers -/

theorem slot_emb (s : Fin 16) (x : S8x256.Idx) (a : Fin 3) :
    ((slotM s).view.emb x a).val = (![s.val, 0, 0] : Fin 3 → ℕ) a
      + (Shape.reshapeEquiv (Shape.Squeezes.numel_eq squeezes_S1x8x256_S8x256) x a).val := by
  have : (slotM s).view.emb x = (slotR s).emb (Shape.reshapeEquiv (Shape.Squeezes.numel_eq squeezes_S1x8x256_S8x256) x) := rfl
  rw [this, Rect.emb_apply]
  show _ + 1 * _ = _
  rw [Nat.one_mul]; rfl

/-- Corresponding elements of two slots differ in the first coordinate only. -/
theorem slot_emb_zero (s : Fin 16) (x : S8x256.Idx) : (slotM s).view.emb x 0 = s := by
  have h := slot_emb s x 0
  have h0 := (Shape.reshapeEquiv (Shape.Squeezes.numel_eq squeezes_S1x8x256_S8x256) x 0).isLt
  apply Fin.ext
  rw [h]
  have : (Shape.reshapeEquiv (Shape.Squeezes.numel_eq squeezes_S1x8x256_S8x256) x 0).val = 0 := by
    have : S1x8x256.size 0 = 1 := rfl
    omega
  rw [this]; rfl
theorem slot_emb_ne (s t : Fin 16) (x : S8x256.Idx) (a : Fin 3) (ha : a ≠ 0) : (slotM s).view.emb x a = (slotM t).view.emb x a := by
  apply Fin.ext
  rw [slot_emb, slot_emb]
  fin_cases a
  · exact absurd rfl ha
  · rfl
  · rfl

theorem cand_eq (c d : Dev nD) (i j : S16x8x256.Idx) (h0 : src c (i 0) = src d (j 0)) (h1 : i 1 = j 1) (h2 : i 2 = j 2) :
    cand m ρ c i = cand m ρ d j := by
  unfold cand
  rw [h0, h1, h2]

/-- The copy of slot 15 of `c` into slot `k` of its peer leaves there what that slot ends with. -/
theorem sent_eq (c : Dev nD) (k : Fin 15) (fd : (cc0_scratch0 : Ref sig .tc).ty.Contents (Elt F)) :
    slotPts (F := F) (peer c k) k.castSucc fullShare
        ((slotM k.castSucc).view.write (Elt F) fd ((slotM 15).view.read (Elt F) (cand m ρ c)) Finset.univ)
      = slotPts (peer c k) k.castSucc fullShare (cand m ρ (peer c k)) := by
  unfold slotPts
  refine pointsTo_congr fun i hi => ?_
  obtain ⟨x, -, rfl⟩ := Finset.mem_map.mp hi
  rw [View.write_emb_of_mem _ _ (Finset.mem_univ x), View.read_apply, cast_cast, cast_eq]
  exact cand_eq m ρ _ _ _ _ (by rw [slot_emb_zero, slot_emb_zero, src_last, src_peer]) (slot_emb_ne _ _ _ _ (by decide)) (slot_emb_ne _ _ _ _ (by decide))

/-! ## The candidate rows as they are stored -/

theorem inb_row (j : Fin 8) : ∀ a, (![15, j.val, 0] : Fin 3 → Nat) a + S1x1x256.size a ≤ S16x8x256.size a := by revert j; decide
abbrev rowR (j : Fin 8) : Rect S16x8x256 := Rect.unit (s := S16x8x256) ![15, j.val, 0] S1x1x256.size (inb_row j)

/-- Rows `0, …, J - 1` of slot 15 hold their candidates. -/
def RowsDone (c : Dev nD) (J : ℕ) (f : (cc0_scratch0 : Ref sig .tc).ty.Contents (Elt F)) : Prop :=
  ∀ i : S16x8x256.Idx, (i 0).val = 15 → (i 1).val < J → f i = cand m ρ c i

theorem mem_row (j : Fin 8) (i : S16x8x256.Idx) : Iff (i ∈ (rowR j).set) ((i 0).val = 15 ∧ (i 1).val = j.val) := by
  rw [Rect.mem_set_unit]
  constructor
  · intro h
    have h0 := h 0
    have h1 := h 1
    simp at h0 h1
    omega
  · rintro ⟨h, h'⟩ a
    fin_cases a
    · simp [h]
    · simp [h']
    · simpa using (i 2).isLt

theorem row_subset (j : Fin 8) : (scM.access (rowR j)).setOn Finset.univ ⊆ (slotM 15).view.set := fun i hi =>
  (mem_slot 15 i).mpr ((mem_row j i).mp (by
    have : (scM.access (rowR j)).setOn Finset.univ = (rowR j).set := View.set_slice_whole _ _
    rwa [this] at hi)).1

theorem row_load_subset (j : Fin 8) : scM.view.setOn (rowR j).toLoadRect.set ⊆ (slotM 15).view.set := by
  refine Finset.Subset.trans (Finset.Subset.trans (Eq.subset ?_) (row_subset j)) (Finset.Subset.refl _)
  show (Finset.map _ _) = _
  exact (View.set_slice (v := scM.view) (rowR j)).symm

theorem rows_store (c : Dev nD) (j : Fin 8) (f : (cc0_scratch0 : Ref sig .tc).ty.Contents (Elt F)) (h : RowsDone m ρ c j.val f) :
    RowsDone m ρ c (j.val + 1) ((scM.access (rowR j) : View sig .tc _ _ _).write (Elt F) f (rowPay (xstg m ρ c) j) Finset.univ) := by
  intro i h0 h1
  by_cases hj : (i 1).val = j.val
  · have hi : i ∈ (rowR j).set := (mem_row j i).mpr ⟨h0, hj⟩
    obtain ⟨x, rfl⟩ : ∃ x, i = (scM.access (rowR j)).emb x := by
      rw [← Rect.map_emb_univ] at hi
      obtain ⟨x, -, hx⟩ := Finset.mem_map.mp hi
      exact ⟨x, hx.symm⟩
    rw [View.write_emb_of_mem _ _ (Finset.mem_univ x)]
    show rowPay (xstg m ρ c) j x = _
    unfold cand
    rw [show ((scM.access (rowR j)).emb x) 0 = (15 : Fin 16) from Fin.ext h0, src_last,
      show ((scM.access (rowR j)).emb x) 1 = j from Fin.ext hj]
    congr 1
    funext a
    fin_cases a
    · exact Subsingleton.elim (α := Fin 1) _ _
    · exact Subsingleton.elim (α := Fin 1) _ _
    · apply Fin.ext
      show _ = 0 + 1 * _
      rw [Nat.zero_add, Nat.one_mul]; rfl
  · rw [View.write_of_not_mem]
    · exact h i h0 (by omega)
    · intro hi
      have : (scM.access (rowR j)).setOn Finset.univ = (rowR j).set := View.set_slice_whole _ _
      rw [this] at hi
      exact hj ((mem_row j i).mp hi).2

/-! ## The result columns as they are stored -/

/-- The `j`-th column of the result as the body stores it, from the whole scratch array. -/
def colPay (v : Vec F S16x8x256 .f32) : Fin 8 → Vec F S256x1 .f32 := fun j => match j with
  | 0 => k0_pay30 v
  | 1 => k0_pay33 (k0_pay32 v)
  | 2 => k0_pay36 (k0_pay31 v) (k0_pay32 v)
  | 3 => k0_pay39 (k0_pay31 v) (k0_pay32 v)
  | 4 => k0_pay42 (k0_pay31 v) (k0_pay32 v)
  | 5 => k0_pay45 (k0_pay31 v) (k0_pay32 v)
  | 6 => k0_pay3 (k0_pay43 (k0_pay31 v) (k0_pay32 v)) (k0_pay44 (k0_pay31 v) (k0_pay32 v))
  | 7 => k0_pay4 (k0_pay43 (k0_pay31 v) (k0_pay32 v)) (k0_pay44 (k0_pay31 v) (k0_pay32 v))

/-- The result on device `c`. -/
def outAt (c : Dev nD) : (cc0_stg1_0 : Ref sig .tc).ty.Contents (Elt F) :=
  fun i => colPay (cand m ρ c) (i 1) (fun a => match a with | 0 => i 0 | 1 => ⟨0, by decide⟩)

theorem inb_col (j : Fin 8) : ∀ a, (![0, j.val] : Fin 2 → Nat) a + S256x1.size a ≤ S256x8.size a := by revert j; decide
abbrev colR (j : Fin 8) : Rect S256x8 := Rect.unit (s := S256x8) ![0, j.val] S256x1.size (inb_col j)

/-- Columns `0, …, J - 1` hold their results. -/
def ColsDone (c : Dev nD) (J : ℕ) (g : (cc0_stg1_0 : Ref sig .tc).ty.Contents (Elt F)) : Prop :=
  ∀ i : S256x8.Idx, (i 1).val < J → g i = outAt m ρ c i

theorem mem_col (j : Fin 8) (i : S256x8.Idx) : Iff (i ∈ (colR j).set) ((i 1).val = j.val) := by
  rw [Rect.mem_set_unit]
  constructor
  · intro h
    have h1 := h 1
    simp at h1
    omega
  · intro h a
    fin_cases a
    · simpa using (i 0).isLt
    · simp [h]

theorem cols_store (c : Dev nD) (j : Fin 8) (g : (cc0_stg1_0 : Ref sig .tc).ty.Contents (Elt F)) (h : ColsDone m ρ c j.val g) :
    ColsDone m ρ c (j.val + 1) ((oM.access (colR j) : View sig .tc _ _ _).write (Elt F) g (colPay (cand m ρ c) j) Finset.univ) := by
  intro i h1
  by_cases hj : (i 1).val = j.val
  · have hi : i ∈ (colR j).set := (mem_col j i).mpr hj
    obtain ⟨x, rfl⟩ : ∃ x, i = (oM.access (colR j)).emb x := by
      rw [← Rect.map_emb_univ] at hi
      obtain ⟨x, -, hx⟩ := Finset.mem_map.mp hi
      exact ⟨x, hx.symm⟩
    rw [View.write_emb_of_mem _ _ (Finset.mem_univ x)]
    show colPay (cand m ρ c) j x = _
    unfold outAt
    rw [show ((oM.access (colR j)).emb x) 1 = j from Fin.ext hj]
    congr 1
    funext a
    fin_cases a
    · apply Fin.ext
      show _ = 0 + 1 * _
      rw [Nat.zero_add, Nat.one_mul]; rfl
    · exact Subsingleton.elim (α := Fin 1) _ _
  · rw [View.write_of_not_mem]
    · exact h i (by omega)
    · intro hi
      have : (oM.access (colR j)).setOn Finset.univ = (colR j).set := View.set_slice_whole _ _
      rw [this] at hi
      exact hj ((mem_col j i).mp hi)

theorem cols_done (c : Dev nD) (g : (cc0_stg1_0 : Ref sig .tc).ty.Contents (Elt F)) (h : ColsDone m ρ c 8 g) : g = outAt m ρ c :=
  funext fun i => h i (i 1).isLt

end Cert.KernelIdeal.Top

end
-- ==== Proof.Ideal.Ops.lean ====
/-
# One step of the exchange at a time

What a device owes at each stage and the levels that order the waits; the ghost state it starts from; and one
lemma per KIND of step — a signal, the barrier wait, a copy, a wait for an own copy, a wait for an incoming
one — at any index. The body of the kernel is then these lemmas in program order.
-/
module

public import proofs.«01_k».proof.Proof.Ideal.Geom

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

/-! ## Levels: barrier cells at 1, receive cells at 2, the rest at 0 -/

def L (g : GSem nD τ sig) : Finset Unit := if g.1.2 = .tc then {()} else ∅
def lv (g : GSem nD τ sig) (_ : Unit) : ℕ := match kindOf g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]
theorem lv_recv (c : Dev nD) (k : Fin 15) (u : Unit) : lv (recvCell c k) u = 2 := by unfold lv; rw [kindOf_recv]

theorem sndO_pos {c : Dev nD} {i : ℕ} {g : GSem nD τ sig} {u : Unit} (h : 0 < sndO c i g u) : ∃ k, g = recvCell (peer c k) k := by
  unfold sndO at h
  rw [Finset.sum_apply, Finsupp.finset_sum_apply] at h
  obtain ⟨k, -, hk⟩ := Finset.exists_ne_zero_of_sum_ne_zero (Nat.ne_of_gt h)
  rw [tallyAt_apply] at hk
  by_contra hn
  exact hk (if_neg fun h' => hn ⟨k, h'.1⟩)
theorem sigO_pos {c : Dev nD} {i : ℕ} {g : GSem nD τ sig} {u : Unit} (h : 0 < sigO c i g u) :
    (∃ k, g = recvCell (peer c k) k) ∨ ∃ k, g = barCell (peer c k) := by
  unfold sigO at h
  rw [Pi.add_apply, Finsupp.add_apply] at h
  rcases Nat.eq_zero_or_pos (sndO c 0 g u) with h0 | h0
  · rw [h0, Nat.zero_add, Finset.sum_apply, Finsupp.finset_sum_apply] at h
    obtain ⟨k, -, hk⟩ := Finset.exists_ne_zero_of_sum_ne_zero (Nat.ne_of_gt h)
    rw [tallyAt_apply] at hk
    by_contra hn
    exact hk (if_neg fun h' => hn (Or.inr ⟨k, h'.1⟩))
  · exact Or.inl (sndO_pos h0)

theorem sndO_last (c : Dev nD) : sndO c 15 = 0 := sum_finFrom_self _
theorem sigO_last (c : Dev nD) : sigO c 15 = sndO c 0 := by unfold sigO; rw [sum_finFrom_self, add_zero]
theorem sndO_succ (c : Dev nD) (i : ℕ) (hi : i < 15) :
    sndO c i = sndO c (i + 1) + tallyAt (recvCell (peer c ⟨i, hi⟩) ⟨i, hi⟩) () N := sum_finFrom_succ hi _
theorem sigO_succ (c : Dev nD) (i : ℕ) (hi : i < 15) :
    sigO c i = sigO c (i + 1) + tallyAt (barCell (peer c ⟨i, hi⟩)) () 1 := by
  unfold sigO; exact add_sum_finFrom_succ _ hi _

/-- A device may wait at level `b` while all it owes lies above. -/
theorem mayWait_of (c : Dev nD) (sm : SemLoc sig) (b : ℕ) (O : CellTallies nD τ sig Unit) (hb : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_bar (c : Dev nD) : (levAts L lv : sProp 𝕄) ⊢ MayWait (c : Thread nD τ) (.reg barS) () (sndO c 0) :=
  mayWait_of c _ 1 _ (le_of_eq (lv_bar c ())) fun g u hg => by
    obtain ⟨k, rfl⟩ := sndO_pos hg
    exact ⟨rfl, by rw [lv_recv]; decide⟩

theorem mayWait_stage (c : Dev nD) (q : DmaSem sig) (hq : lv ((c : Thread nD τ), .dma q) () = 0) (O : CellTallies nD τ sig Unit)
    (hO : O = sigO c 0 ∨ O = 0) : (levAts L lv : sProp 𝕄) ⊢ MayWait (c : Thread nD τ) (.dma q) () O := by
  rcases hO with rfl | rfl
  · refine mayWait_of c _ 0 _ (le_of_eq hq) fun g u hg => ?_
    rcases sigO_pos hg with ⟨k, rfl⟩ | ⟨k, rfl⟩
    · exact ⟨rfl, by rw [lv_recv]; decide⟩
    · exact ⟨rfl, by rw [lv_bar]; decide⟩
  · rw [MayWait_zero]; iintro -; iempintro

/-! ## The ghost state -/

/-- Every cell's invariant, under the names the launch allocated them at, and that every cell is at its one round. -/
def records (K : Dev nD × Kd → ℕ) : sProp 𝕄 :=
  iprop((bigSep Finset.univ fun ck : Dev nD × Kd => cellInv ER (topRd m ρ) (K ck) (kcell ck))
    ∗ bigSep Finset.univ fun ck : Dev nD × Kd => reached ER (kcell ck) 0)

instance records_persistent (K : Dev nD × Kd → ℕ) : BI.Persistent (records m ρ K) := by unfold records; infer_instance

theorem inv_at (K : Dev nD × Kd → ℕ) (ck : Dev nD × Kd) : records m ρ K ⊢ cellInv ER (topRd m ρ) (K ck) (kcell ck) := by
  unfold records
  exact sep_elim_left.trans (bigSep_elim (Finset.mem_univ ck))
theorem reached_at (K : Dev nD × Kd → ℕ) (ck : Dev nD × Kd) : records m ρ K ⊢ reached ER (kcell ck) 0 := by
  unfold records
  exact sep_elim_right.trans (bigSep_elim (Finset.mem_univ ck))

/-- The tokens of the duties device `c` pays: its signals, its copies' arrivals, its copies' own credits. -/
def payToks (c : Dev nD) : sProp 𝕄 :=
  iprop((bigSep Finset.univ fun k : Fin 15 => dutyTok ER (barCell (peer c k)) 0 k)
    ∗ (bigSep Finset.univ fun k : Fin 15 => dutyTok ER (sendCell c k) 0 0)
    ∗ (bigSep Finset.univ fun k : Fin 15 => dutyTok ER (recvCell (peer c k) k) 0 0))

/-- What device `c` starts from, apart from its credits and levels. -/
def ghost (K : Dev nD × Kd → ℕ) (c : Dev nD) : sProp 𝕄 :=
  iprop(records m ρ K
    ∗ (atPos ER (barCell c) 0 ∅ 0 ∗ (bigSep Finset.univ fun k : Fin 15 => atPos ER (sendCell c k) 0 ∅ 0)
      ∗ (bigSep Finset.univ fun k : Fin 15 => atPos ER (recvCell c k) 0 ∅ 0))
    ∗ payToks c)

/-- What the body of device `c` starts from. -/
def start (c : Dev nD) : sProp 𝕄 :=
  iprop((∃ K, ghost m ρ K c) ∗ cred (tallyAt (barCell c) () 15) ∗ (bigSep Finset.univ fun k : Fin 15 => cred (tallyAt (recvCell c k) () N)) ∗ levAts L lv)

/-! ## The stages -/

abbrev 𝒱₀ : Variants := Variants.none

/-- Before signal `i`: the remaining signals' tokens and the slots they hand over. -/
def SigSt (c : Dev nD) (i : ℕ) : sProp 𝕄 :=
  iprop((∃ W, owes (c : Thread nD τ) (sigO c i) W)
    ∗ bigSep (finFrom 15 i) fun k => iprop(dutyTok ER (barCell (peer c k)) 0 k ∗ ∃ f, slotPts c (rev k).castSucc fullShare f))

/-- Before copy `i`: the remaining copies' shares, targets and tokens; the credits of the copies already issued. -/
def SndSt (c : Dev nD) (i : ℕ) : sProp 𝕄 :=
  iprop((∃ W, owes (c : Thread nD τ) (sndO c i) W)
    ∗ (bigSep (finFrom 15 i) fun k => iprop(slotPts c 15 (shr k) (cand m ρ c) ∗ (∃ f, slotPts (peer c k) k.castSucc fullShare f)
        ∗ dutyTok ER (sendCell c k) 0 0 ∗ dutyTok ER (recvCell (peer c k) k) 0 0))
    ∗ bigSep (finUpTo 15 i) fun k => cred (tallyAt (sendCell c k) () N))

/-- With `i` own copies and `j` incoming ones waited for: what is still to wait for, and what the waits brought. -/
def WtSt (c : Dev nD) (i j : ℕ) : sProp 𝕄 :=
  iprop((∃ W, owes (c : Thread nD τ) 0 W)
    ∗ (bigSep (finFrom 15 i) fun k => iprop(cred (tallyAt (sendCell c k) () N) ∗ atPos ER (sendCell c k) 0 ∅ 0))
    ∗ (bigSep (finUpTo 15 i) fun k => iprop(slotPts c 15 (shr k) (cand m ρ c) ∗ semVal (sendCell c k) 0))
    ∗ (bigSep (finFrom 15 j) fun k => iprop(cred (tallyAt (recvCell c k) () N) ∗ atPos ER (recvCell c k) 0 ∅ 0))
    ∗ bigSep (finUpTo 15 j) fun k => iprop(slotPts c k.castSucc fullShare (cand m ρ c) ∗ semVal (recvCell c k) 0))

variable (K : Dev nD × Kd → ℕ)

/-- Signal `i`: it hands over the slot that the signalled device will copy into. -/
theorem op_signal (c : Dev nD) (i : ℕ) (hi : i < 15) (n : Dev nD) (hn : n = peer c ⟨i, hi⟩) (Q : PUnit → sProp 𝕄) :
    iprop(records m ρ K ∗ SigSt c i ∗ (SigSt c (i + 1) -∗ Q ⟨⟩))
      ⊢ wp frame (wpE (defs₀ (F := F)) 𝒱₀ (c : Thread nD τ) none) Set.univ (semSignalWord n barS 1#32) Q := by
  subst hn
  simp only [semSignalWord, Prog.lift]
  unfold SigSt
  rw [bigSep_finFrom_succ hi, sigO_succ c i hi]
  iintro ⟨#HR, ⟨⟨%W, HO⟩, ⟨Ht, Hs⟩, Hrest⟩, Hk⟩
  iapply (Rounds.wp_signal 𝒱₀ ER (topRd m ρ) (c : Thread nD τ) none (dst := (peer c ⟨i, hi⟩ : Thread nD τ)) (κ := K (peer c ⟨i, hi⟩, none))
      (d := ⟨i, hi⟩) (by rw [duties_bar]; exact Finset.mem_univ _) ((amount_bar m ρ (peer c ⟨i, hi⟩) ⟨i, hi⟩).trans (by decide)) () (sigO c (i + 1)) rfl)
    $$ [HO Ht Hs]
  · isplitr; · iapply (inv_at m ρ K (peer c ⟨i, hi⟩, none)); iexact HR
    isplitl [HO]; · iexact HO
    isplitl [Ht]; · iexact Ht
    isplitl [Hs]
    · rw [payload_bar]; unfold barPay; rw [peer_rev_peer]; iexact Hs
    iapply (reached_at m ρ K (peer c ⟨i, hi⟩, none)); iexact HR
  iintro HO
  rw [wp_ret]; imodintro
  iapply Hk
  isplitl [HO]; · iexists W; iexact HO
  iexact Hrest

/-- The wait for all fifteen signals: every peer's slot comes with it. -/
theorem op_wait_bar (c : Dev nD) (Q : PUnit → sProp 𝕄) :
    iprop(records m ρ K ∗ SigSt c 15 ∗ levAts L lv ∗ cred (tallyAt (barCell c) () 15) ∗ atPos ER (barCell c) 0 ∅ 0
        ∗ (((∃ W, owes (c : Thread nD τ) (sndO c 0) W) ∗ (bigSep Finset.univ fun k : Fin 15 => iprop(∃ f, slotPts (F := F) (peer c k) k.castSucc fullShare f))
            ∗ semVal (barCell c) 0) -∗ Q ⟨⟩))
      ⊢ wp frame (wpE (defs₀ (F := F)) 𝒱₀ (c : Thread nD τ) none) Set.univ (semWaitWord barS 15#32) Q := by
  simp only [semWaitWord, Prog.lift]
  unfold SigSt
  rw [sigO_last]
  iintro ⟨#HR, ⟨⟨%W, HO⟩, -⟩, #Hlev, Hc, Hat, Hk⟩
  ihave #HI := (inv_at m ρ K (c, none)) $$ HR
  iapply (Rounds.wp_wait_rest_token 𝒱₀ ER (topRd m ρ) (c : Thread nD τ) none (κ := K (c, none))
      (wpE_semWait_eq 𝒱₀ (c : Thread nD τ) none Set.univ) (Set.mem_univ _) () (O := sndO c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (topRd m ρ) (Set.mem_univ (K (c, none))) (fun h => h) (R := 0 + 1) (duties_later m ρ (barCell c))) $$ [Hat] with HzB
  · isplitr; · iexact HI
    iexact Hat
  rw [wp_ret]; imodintro
  iapply Hk
  isplitl [HO]; · iexists _; iexact HO
  isplitl [Hp]; · iexact Hp
  iexact HzB

theorem credit_slot (s : Fin 16) : (slotM s).view.dmaCredit = N := by revert s; decide

set_option maxHeartbeats 800000 in
/-- The library's rule for a copy at this exchange's cells: device `c`'s copy `k`. -/
theorem send_step (c : Dev nD) (k : Fin 15)
    {hsc : (slotM k.castSucc : Memref sig (Dev.tc (peer c k) : Thread nD τ).2.kind .vmem S8x256 .f32).view.ref.isScScratch = false}
    {hsrc : (slotM 15).view.WordExact} {hdst : (slotM k.castSucc).view.WordExact}
    {hsem : DmaTarget.Typed .vmem (.dma (recvS k)) (.remote (Dev.tc (peer c k) : Thread nD τ) (slotM k.castSucc) (.dma (sendS k)) hsc)}
    {α : Type} {Q : α → sProp 𝕄} {kt : PUnit → Prog (TpuEff nD τ sig (Elt F) Λ₀ .tc) α}
    (O : CellTallies nD τ sig Unit) (W : Waits sig Unit) (fn : (cc0_scratch0 : Ref sig .tc).ty.Contents (Elt F)) :
    iprop(cellInv ER (topRd m ρ) (K (c, some (false, k))) (sendCell c k) ∗ cellInv ER (topRd m ρ) (K (peer c k, some (true, k))) (recvCell (peer c k) k)
        ∗ slotPts c 15 (shr k) (cand m ρ c) ∗ slotPts (peer c k) k.castSucc fullShare fn
        ∗ owes (c : Thread nD τ) (O + tallyAt (recvCell (peer c k) k) () N) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slotM 15) (.remote (Dev.tc (peer c k) : Thread nD τ) (slotM k.castSucc) (.dma (sendS k)) hsc) (.dma (recvS k)) hsrc hdst hsem) kt) Q) := by
  have hN : (slotM k.castSucc).view.amount (.dma (recvS k) : SemLoc sig) = N := credit_slot k.castSucc
  have h1 : slotPts (F := F) c 15 (shr k) (cand m ρ c) ⊢ (topRd m ρ).payload (sendCell c k) 0 0 := by
    rw [payload_send]; exact BI.Entails.refl _
  have h2 : slotPts (F := F) (peer c k) k.castSucc fullShare
        ((slotM k.castSucc).view.write (Elt F) fn ((slotM 15).view.read (Elt F) (cand m ρ c)) Finset.univ)
      ⊢ (topRd m ρ).payload (recvCell (peer c k) k) 0 0 := by
    rw [payload_recv]; exact Entails.of_eq (sent_eq m ρ c k fn)
  unfold slotPts at h1 h2 ⊢
  have hd1 : (0 : Fin 15) ∈ (topRd m ρ).duties (sendCell c k) 0 := by rw [duties_send]; exact Finset.mem_singleton_self _
  have hd2 : (0 : Fin 15) ∈ (topRd m ρ).duties (recvCell (peer c k) k) 0 := by rw [duties_recv]; exact Finset.mem_singleton_self _
  exact Rounds.wp_send_pointsTo (src := slotM 15) (dst := slotM k.castSucc) (c' := (peer c k : Thread nD τ))
    (sS := .dma (sendS k)) (sem := .dma (recvS k)) (hsc := hsc) (hsrc := hsrc) (hdst := hdst) (hsem := hsem) 𝒱₀ ER (topRd m ρ) (c : Thread nD τ) none
    (κ₁ := K (c, some (false, k))) (κ₂ := K (peer c k, some (true, k)))
    (r₁ := 0) (r₂ := 0) (d₁ := 0) (d₂ := 0) (fd := fn) (fs := cand m ρ c) (k := kt) (Q := Q) (Es := Set.univ) (q := shr k)
    (hd₁ := hd1) (hd₂ := hd2) () () N hN
    (amount_send m ρ c k 0) (amount_recv m ρ (peer c k) k 0) O rfl (W := W) h1 h2

/-- Copy `i`: its share of slot 15 and the peer's slot go in, the credit to wait for it comes out. -/
theorem op_send (c : Dev nD) (i : ℕ) (hi : i < 15) (n : Dev nD) (hn : n = peer c ⟨i, hi⟩)
    (sS : DmaSem sig) (hS : sS = sendS ⟨i, hi⟩) (rS : DmaSem sig) (hV : rS = recvS ⟨i, hi⟩)
    {hsc : (slotM (⟨i, hi⟩ : Fin 15).castSucc : Memref sig (Dev.tc n : Thread nD τ).2.kind .vmem S8x256 .f32).view.ref.isScScratch = false}
    {hsrc : (slotM 15).view.WordExact} {hdst : (slotM (⟨i, hi⟩ : Fin 15).castSucc).view.WordExact}
    {hsem : DmaTarget.Typed .vmem (.dma rS) (.remote (Dev.tc n : Thread nD τ) (slotM (⟨i, hi⟩ : Fin 15).castSucc) (.dma sS) hsc)}
    (Q : PUnit → sProp 𝕄) :
    iprop(records m ρ K ∗ SndSt m ρ c i ∗ (SndSt m ρ c (i + 1) -∗ Q ⟨⟩))
      ⊢ wp frame (wpE (defs₀ (F := F)) 𝒱₀ (c : Thread nD τ) none) Set.univ
          (Prog.lift (.enqueueDma (slotM 15) (.remote (Dev.tc n : Thread nD τ) (slotM (⟨i, hi⟩ : Fin 15).castSucc) (.dma sS) hsc) (.dma rS) hsrc hdst hsem)) Q := by
  subst hn hS hV
  simp only [Prog.lift]
  unfold SndSt
  rw [bigSep_finFrom_succ hi, bigSep_finUpTo_succ hi, sndO_succ c i hi]
  iintro ⟨#HR, ⟨⟨%W, HO⟩, ⟨⟨Hsrc, ⟨%fn, Hdst⟩, HtS, HtV⟩, Hrest⟩, Hcr⟩, Hk⟩
  iapply (send_step m ρ K c ⟨i, hi⟩ (sndO c (i + 1)) W fn) $$ [Hsrc Hdst HO HtS HtV]
  · isplitr; · iapply (inv_at m ρ K (c, some (false, ⟨i, hi⟩))); iexact HR
    isplitr; · iapply (inv_at m ρ K (peer c ⟨i, hi⟩, some (true, ⟨i, hi⟩))); iexact HR
    isplitl [Hsrc]; · iexact Hsrc
    isplitl [Hdst]; · iexact Hdst
    isplitl [HO]; · iexact HO
    isplitl [HtS]; · iexact HtS
    isplitr; · iapply (reached_at m ρ K (c, some (false, ⟨i, hi⟩))); iexact HR
    isplitl [HtV]; · iexact HtV
    iapply (reached_at m ρ K (peer c ⟨i, hi⟩, some (true, ⟨i, hi⟩))); iexact HR
  iintro ⟨HcS, HO⟩
  rw [wp_ret]; imodintro
  iapply Hk
  isplitl [HO]; · iexists W; iexact HO
  isplitl [Hrest]; · iexact Hrest
  isplitl [HcS]; · iexact HcS
  iexact Hcr

/-- The wait for own copy `i`: its share of slot 15 comes back. -/
theorem op_wait_send (c : Dev nD) (i : ℕ) (hi : i < 15) (j : ℕ) (sS : DmaSem sig) (hS : sS = sendS ⟨i, hi⟩)
    (a b : Memref sig .tc .vmem S8x256 .f32) (hb : b.view.dmaCredit = N) {h₁ h₂} (Q : PUnit → sProp 𝕄) :
    iprop(records m ρ K ∗ WtSt m ρ c i j ∗ (WtSt m ρ c (i + 1) j -∗ Q ⟨⟩))
      ⊢ wp frame (wpE (defs₀ (F := F)) 𝒱₀ (c : Thread nD τ) none) Set.univ (Prog.lift (.waitDma2 sS a b h₁ h₂)) Q := by
  subst hS
  simp only [Prog.lift]
  unfold WtSt
  rw [bigSep_finFrom_succ hi, bigSep_finUpTo_succ hi]
  iintro ⟨#HR, ⟨⟨%W, HO⟩, ⟨⟨Hc, Hat⟩, Hrest⟩, Hdone, Hrf, Hrd⟩, Hk⟩
  ihave #HI := (inv_at m ρ K (c, some (false, ⟨i, hi⟩))) $$ HR
  iapply (Rounds.wp_wait_rest_token 𝒱₀ ER (topRd m ρ) (c : Thread nD τ) none (κ := K (c, some (false, ⟨i, hi⟩))) (sm := .dma (sendS ⟨i, hi⟩)) (k' := N)
      (fun K' => (wpE_waitDma2_eq 𝒱₀ (c : Thread nD τ) none Set.univ K').trans (by rw [hb])) (Set.mem_univ _) () (O := 0) (W := W) (R := 0) (m := 0) (T := ∅)
      (by rw [Nat.zero_add]; exact (expect_send m ρ c ⟨i, hi⟩).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c ⟨i, hi⟩)) $$ Hpay
  imod (Rounds.cell_close ER (topRd m ρ) (Set.mem_univ (K (c, some (false, ⟨i, hi⟩)))) (fun h => h) (R := 0 + 1) (duties_later m ρ (sendCell c ⟨i, hi⟩))) $$ [Hat] with Hz
  · isplitr; · iexact HI
    iexact Hat
  rw [wp_ret]; imodintro
  iapply Hk
  isplitl [HO]; · iexists _; iexact HO
  isplitl [Hrest]; · iexact Hrest
  isplitl [Hp Hz Hdone]
  · isplitl [Hp Hz]
    · isplitl [Hp]; · unfold sendPay; iexact Hp
      iexact Hz
    iexact Hdone
  isplitl [Hrf] <;> iassumption

/-- The wait for incoming copy `j`: slot `j` comes with what it holds. -/
theorem op_wait_recv (c : Dev nD) (i : ℕ) (j : ℕ) (hj : j < 15) (rS : DmaSem sig) (hV : rS = recvS ⟨j, hj⟩)
    (a b : Memref sig .tc .vmem S8x256 .f32) (hb : b.view.dmaCredit = N) {h₁ h₂} (Q : PUnit → sProp 𝕄) :
    iprop(records m ρ K ∗ WtSt m ρ c i j ∗ (WtSt m ρ c i (j + 1) -∗ Q ⟨⟩))
      ⊢ wp frame (wpE (defs₀ (F := F)) 𝒱₀ (c : Thread nD τ) none) Set.univ (Prog.lift (.waitDma2 rS a b h₁ h₂)) Q := by
  subst hV
  simp only [Prog.lift]
  unfold WtSt
  rw [bigSep_finFrom_succ hj, bigSep_finUpTo_succ hj]
  iintro ⟨#HR, ⟨⟨%W, HO⟩, Hsf, Hsd, ⟨⟨Hc, Hat⟩, Hrest⟩, Hdone⟩, Hk⟩
  ihave #HI := (inv_at m ρ K (c, some (true, ⟨j, hj⟩))) $$ HR
  iapply (Rounds.wp_wait_rest_token 𝒱₀ ER (topRd m ρ) (c : Thread nD τ) none (κ := K (c, some (true, ⟨j, hj⟩))) (sm := .dma (recvS ⟨j, hj⟩)) (k' := N)
      (fun K' => (wpE_waitDma2_eq 𝒱₀ (c : Thread nD τ) none Set.univ K').trans (by rw [hb])) (Set.mem_univ _) () (O := 0) (W := W) (R := 0) (m := 0) (T := ∅)
      (by rw [Nat.zero_add]; exact (expect_recv m ρ c ⟨j, hj⟩).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c ⟨j, hj⟩)) $$ Hpay
  imod (Rounds.cell_close ER (topRd m ρ) (Set.mem_univ (K (c, some (true, ⟨j, hj⟩)))) (fun h => h) (R := 0 + 1) (duties_later m ρ (recvCell c ⟨j, hj⟩))) $$ [Hat] with Hz
  · isplitr; · iexact HI
    iexact Hat
  rw [wp_ret]; imodintro
  iapply Hk
  isplitl [HO]; · iexists _; iexact HO
  isplitl [Hsf]; · iexact Hsf
  isplitl [Hsd]; · iexact Hsd
  isplitl [Hrest]; · iexact Hrest
  isplitl [Hp Hz]
  · isplitl [Hp]; · unfold recvPay; iexact Hp
    iexact Hz
  iexact Hdone

end Cert.KernelIdeal.Top

end
-- ==== Proof.Ideal.Mem.lean ====
/-
# The loads and stores of the body

One lemma per kind: the device's own number, the load of its block of `x`, the rows of candidates going into
slot 15, the load of the sixteen slots, the columns of the result. Also how the sixteen slots are lent out
before the copies and put together again after the waits.
-/
module

public import proofs.«01_k».proof.Proof.Ideal.Ops

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

theorem hz2 : (![0, 0] : Fin 2 → Nat) = fun _ => 0 := funext fun a => by fin_cases a <;> rfl
theorem hz3 : (![0, 0, 0] : Fin 3 → Nat) = fun _ => 0 := funext fun a => by fin_cases a <;> rfl

/-- The input window of device `c` holds its block of `x`. -/
def XSt (c : Dev nD) : sProp 𝕄 := ((c : Thread nD τ).loc cc0_stg0_0) ↦{fullShare} (xstg m ρ c)
/-- Slot 15 of device `c` with its first `J` rows stored. -/
def RowSt (c : Dev nD) (J : ℕ) : sProp 𝕄 := iprop(∃ f, ⌜RowsDone m ρ c J f⌝ ∗ slotPts c 15 fullShare f)
/-- The scratch array of device `c` with all sixteen slots filled. -/
def ScrSt (c : Dev nD) : sProp 𝕄 := ((c : Thread nD τ).loc cc0_scratch0) ↦{fullShare} (cand m ρ c)
/-- The result window of device `c` with its first `J` columns stored. -/
def ColSt (c : Dev nD) (J : ℕ) : sProp 𝕄 := iprop(∃ g, ⌜ColsDone m ρ c J g⌝ ∗ (((c : Thread nD τ).loc cc0_stg1_0) ↦{fullShare} g))

theorem op_id (c : Dev nD) (Q : Dev nD → sProp 𝕄) :
    Q c ⊢ wp frame (wpE (defs₀ (F := F)) 𝒱₀ (c : Thread nD τ) none) Set.univ (Prog.lift .deviceId) Q := by
  simp only [Prog.lift, wp_deviceId, wp_ret]
  iintro H; imodintro; iexact H

theorem op_x_load (c : Dev nD) (h) (Q : Vec F S256x1024 .f32 → sProp 𝕄) :
    iprop(XSt m ρ c ∗ (XSt m ρ c -∗ Q (xstg m ρ c)))
      ⊢ wp frame (wpE (defs₀ (F := F)) 𝒱₀ (c : Thread nD τ) none) Set.univ
          (Prog.lift (.load xM (Rect.unit (s := S256x1024) ![0, 0] S256x1024.size inb_S256x1024_S256x1024_0_0).toLoadRect h)) Q := by
  simp only [Prog.lift]
  unfold XSt
  iintro ⟨H, Hk⟩
  iapply (wp_load 𝒱₀ (c : Thread nD τ) none Set.univ (m := xM) (Finset.subset_univ _)) $$ H; iintro H
  rw [show (xM : Memref sig .tc .vmem S256x1024 .f32).view.readAt (Elt F) (Rect.unit (s := S256x1024) ![0, 0] S256x1024.size inb_S256x1024_S256x1024_0_0).toLoadRect (xstg m ρ c) = xstg m ρ c
    from Memref.readAt_unit_zero (Elt F) cc0_stg0_0 hz2 _ _, wp_ret]
  imodintro
  iapply Hk; iexact H

theorem op_row_load (c : Dev nD) (J : ℕ) (j : Fin 8) (h) (Q : Vec F S1x1x256 .f32 → sProp 𝕄) :
    iprop(RowSt m ρ c J ∗ (∀ v, RowSt m ρ c J -∗ Q v))
      ⊢ wp frame (wpE (defs₀ (F := F)) 𝒱₀ (c : Thread nD τ) none) Set.univ (Prog.lift (.load scM (rowR j).toLoadRect h)) Q := by
  simp only [Prog.lift]
  unfold RowSt slotPts
  iintro ⟨⟨%f, %hf, H⟩, Hk⟩
  iapply (wp_load 𝒱₀ (c : Thread nD τ) none Set.univ (m := scM) (row_load_subset j)) $$ H; iintro H
  rw [wp_ret]; imodintro
  iapply Hk
  iexists f; isplitr; · (ipureintro; exact hf)
  iexact H

theorem op_row (c : Dev nD) (j : Fin 8) (pay : Vec F S1x1x256 .f32) (hp : pay = rowPay (xstg m ρ c) j) {h₁ h₂} (Q : PUnit → sProp 𝕄) :
    iprop(RowSt m ρ c j.val ∗ (RowSt m ρ c (j.val + 1) -∗ Q ⟨⟩))
      ⊢ wp frame (wpE (defs₀ (F := F)) 𝒱₀ (c : Thread nD τ) none) Set.univ (Prog.lift (.store scM (rowR j) pay Finset.univ h₁ h₂)) Q := by
  subst hp
  simp only [Prog.lift]
  unfold RowSt slotPts
  iintro ⟨⟨%f, %hf, H⟩, Hk⟩
  iapply (wp_store 𝒱₀ (c : Thread nD τ) none Set.univ (m := scM) (r := rowR j) (Mk := Finset.univ) (row_subset j)) $$ H; iintro H
  rw [wp_ret]; imodintro
  iapply Hk
  iexists _; isplitr; · (ipureintro; exact rows_store m ρ c j f hf)
  iexact H

theorem op_scr_load (c : Dev nD) (h) (Q : Vec F S16x8x256 .f32 → sProp 𝕄) :
    iprop(ScrSt m ρ c ∗ (ScrSt m ρ c -∗ Q (cand m ρ c)))
      ⊢ wp frame (wpE (defs₀ (F := F)) 𝒱₀ (c : Thread nD τ) none) Set.univ
          (Prog.lift (.load scM (Rect.unit (s := S16x8x256) ![0, 0, 0] S16x8x256.size inb_S16x8x256_S16x8x256_0_0_0).toLoadRect h)) Q := by
  simp only [Prog.lift]
  unfold ScrSt
  iintro ⟨H, Hk⟩
  iapply (wp_load 𝒱₀ (c : Thread nD τ) none Set.univ (m := scM) (Finset.subset_univ _)) $$ H; iintro H
  rw [show (scM : Memref sig .tc .vmem S16x8x256 .f32).view.readAt (Elt F) (Rect.unit (s := S16x8x256) ![0, 0, 0] S16x8x256.size inb_S16x8x256_S16x8x256_0_0_0).toLoadRect (cand m ρ c) = cand m ρ c
    from Memref.readAt_unit_zero (Elt F) cc0_scratch0 hz3 _ _, wp_ret]
  imodintro
  iapply Hk; iexact H

theorem op_col_load (c : Dev nD) (J : ℕ) (j : Fin 8) (h) (Q : Vec F S256x1 .f32 → sProp 𝕄) :
    iprop(ColSt m ρ c J ∗ (∀ v, ColSt m ρ c J -∗ Q v))
      ⊢ wp frame (wpE (defs₀ (F := F)) 𝒱₀ (c : Thread nD τ) none) Set.univ (Prog.lift (.load oM (colR j).toLoadRect h)) Q := by
  simp only [Prog.lift]
  unfold ColSt
  iintro ⟨⟨%g, %hg, H⟩, Hk⟩
  iapply (wp_load 𝒱₀ (c : Thread nD τ) none Set.univ (m := oM) (Finset.subset_univ _)) $$ H; iintro H
  rw [wp_ret]; imodintro
  iapply Hk
  iexists g; isplitr; · (ipureintro; exact hg)
  iexact H

theorem op_col (c : Dev nD) (j : Fin 8) (pay : Vec F S256x1 .f32) (hp : pay = colPay (cand m ρ c) j) {h₁ h₂} (Q : PUnit → sProp 𝕄) :
    iprop(ColSt m ρ c j.val ∗ (ColSt m ρ c (j.val + 1) -∗ Q ⟨⟩))
      ⊢ wp frame (wpE (defs₀ (F := F)) 𝒱₀ (c : Thread nD τ) none) Set.univ (Prog.lift (.store oM (colR j) pay Finset.univ h₁ h₂)) Q := by
  subst hp
  simp only [Prog.lift]
  unfold ColSt
  iintro ⟨⟨%g, %hg, H⟩, Hk⟩
  iapply (wp_store 𝒱₀ (c : Thread nD τ) none Set.univ (m := oM) (r := colR j) (Mk := Finset.univ) (Finset.subset_univ _)) $$ H; iintro H
  rw [wp_ret]; imodintro
  iapply Hk
  iexists _; isplitr; · (ipureintro; exact cols_store m ρ c j g hg)
  iexact H

/-! ## Lending the slots out, and putting them together again -/

theorem slot_some (c : Dev nD) (s : Fin 16) (f : (cc0_scratch0 : Ref sig .tc).ty.Contents (Elt F)) :
    (slotPts (F := F) c s fullShare f : sProp 𝕄) ⊢ iprop(∃ f, slotPts (F := F) c s fullShare f) := by
  iintro H; iexists f; iexact H
theorem rev_slots (c : Dev nD) (f : (cc0_scratch0 : Ref sig .tc).ty.Contents (Elt F)) :
    (bigSep Finset.univ fun k : Fin 15 => slotPts (F := F) c k.castSucc fullShare f)
      ⊢ bigSep Finset.univ fun k : Fin 15 => iprop(∃ f, slotPts (F := F) c (rev k).castSucc fullShare f) := by
  rw [bigSep_univ_equiv revE fun k : Fin 15 => slotPts (F := F) c k.castSucc fullShare f]
  exact bigSep_mono fun k _ => slot_some c _ f

/-- The scratch array at entry: every slot but the last goes to the signals, the last is the device's own. -/
theorem begin_slots (c : Dev nD) :
    iprop((∃ W, owes (c : Thread nD τ) (sigO c 0) W) ∗ (bigSep Finset.univ fun k : Fin 15 => dutyTok ER (barCell (peer c k)) 0 k)
        ∗ ∃ f, (((c : Thread nD τ).loc cc0_scratch0) ↦{fullShare} f))
      ⊢ (iprop(SigSt (F := F) c 0 ∗ RowSt m ρ c 0) : sProp 𝕄) := by
  iintro ⟨HO, Ht, ⟨%f, Hs⟩⟩
  ihave Hs' := (Entails.of_eq (scr_split' c f)) $$ Hs
  icases Hs' with ⟨Hs, H15⟩
  unfold SigSt RowSt
  rw [finFrom_zero]
  isplitr [H15]
  · isplitl [HO]; · iexact HO
    rw [bigSep_sep']
    isplitl [Ht]; · iexact Ht
    iapply (rev_slots c f)
    iexact Hs
  · iexists f
    isplitr; · (ipureintro; exact fun i _ h => absurd h (Nat.not_lt_zero _))
    iexact H15

/-- Slot 15 complete, the peers' slots in hand: ready to copy. -/
theorem begin_send (c : Dev nD) :
    iprop((∃ W, owes (c : Thread nD τ) (sndO c 0) W) ∗ RowSt m ρ c 8
        ∗ (bigSep Finset.univ fun k : Fin 15 => iprop(∃ f, slotPts (F := F) (peer c k) k.castSucc fullShare f))
        ∗ (bigSep Finset.univ fun k : Fin 15 => dutyTok ER (sendCell c k) 0 0)
        ∗ (bigSep Finset.univ fun k : Fin 15 => dutyTok ER (recvCell (peer c k) k) 0 0))
      ⊢ (SndSt m ρ c 0 : sProp 𝕄) := by
  unfold RowSt SndSt
  simp only [finFrom_zero, finUpTo_zero, bigSep_empty, bigSep_sep']
  iintro ⟨HO, ⟨%f, %hf, H⟩, Hp, HtS, HtV⟩
  ihave H15 := (Entails.of_eq ((slotPts_congr c 15 fullShare f (cand m ρ c) fun i h => hf i h (i 1).isLt).trans (slot_deal c (cand m ρ c)))) $$ H
  isplitl [HO]; · iexact HO
  isplitl [H15 Hp HtS HtV]
  · isplitl [H15]; · iexact H15
    isplitl [Hp]; · iexact Hp
    isplitl [HtS]; · iexact HtS
    iexact HtV
  iempintro

/-- All copies issued: ready to wait. -/
theorem begin_wait (c : Dev nD) :
    iprop(SndSt m ρ c 15 ∗ (bigSep Finset.univ fun k : Fin 15 => atPos ER (sendCell c k) 0 ∅ 0)
        ∗ (bigSep Finset.univ fun k : Fin 15 => cred (tallyAt (recvCell c k) () N))
        ∗ (bigSep Finset.univ fun k : Fin 15 => atPos ER (recvCell c k) 0 ∅ 0))
      ⊢ (WtSt m ρ c 0 0 : sProp 𝕄) := by
  unfold SndSt WtSt
  simp only [finFrom_zero, finUpTo_zero, bigSep_empty, finUpTo_self, sndO_last, bigSep_sep']
  iintro ⟨⟨HO, -, HcS⟩, HaS, HcV, HaV⟩
  isplitl [HO]; · iexact HO
  isplitl [HcS HaS]
  · isplitl [HcS]; · iexact HcS
    iexact HaS
  isplitr; · (isplitr <;> iempintro)
  isplitl [HcV HaV]
  · isplitl [HcV]; · iexact HcV
    iexact HaV
  isplitr <;> iempintro

/-- All waits done: the whole scratch array, and every counter back at zero. -/
theorem end_wait (c : Dev nD) :
    (WtSt m ρ c 15 15 : sProp 𝕄) ⊢ iprop((∃ W, owes (c : Thread nD τ) 0 W) ∗ ScrSt m ρ c
        ∗ (bigSep Finset.univ fun k : Fin 15 => semVal (sendCell c k) 0) ∗ (bigSep Finset.univ fun k : Fin 15 => semVal (recvCell c k) 0)) := by
  unfold WtSt ScrSt
  simp only [finUpTo_self, bigSep_sep', ← slot_deal, scr_split']
  iintro ⟨HO, -, ⟨H15, HzS⟩, -, ⟨Hs, HzV⟩⟩
  isplitl [HO]; · iexact HO
  isplitl [H15 Hs]
  · isplitl [Hs]; · iexact Hs
    iexact H15
  isplitl [HzS] <;> iassumption

end Cert.KernelIdeal.Top

end
-- ==== Proof.Ideal.PartsA.lean ====
/-
# The signals, the barrier wait and the candidate rows
-/
module

public import proofs.«01_k».proof.Proof.Ideal.Mem

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

variable (K : Dev nD × Kd → ℕ)

/-! ## The devices the body names -/

theorem dev1_eq (c : Dev nD) : (⟨k0_dev1 c, k0_dev1_lt c⟩ : Dev nD) = peer c ⟨0, by decide⟩ := Fin.ext (by revert c; decide +kernel)
theorem dev2_eq (c : Dev nD) : (⟨k0_dev2 c, k0_dev2_lt c⟩ : Dev nD) = peer c ⟨1, by decide⟩ := Fin.ext (by revert c; decide +kernel)
theorem dev3_eq (c : Dev nD) : (⟨k0_dev3 c, k0_dev3_lt c⟩ : Dev nD) = peer c ⟨2, by decide⟩ := Fin.ext (by revert c; decide +kernel)
theorem dev4_eq (c : Dev nD) : (⟨k0_dev4 c, k0_dev4_lt c⟩ : Dev nD) = peer c ⟨3, by decide⟩ := Fin.ext (by revert c; decide +kernel)
theorem dev5_eq (c : Dev nD) : (⟨k0_dev5 c, k0_dev5_lt c⟩ : Dev nD) = peer c ⟨4, by decide⟩ := Fin.ext (by revert c; decide +kernel)
theorem dev6_eq (c : Dev nD) : (⟨k0_dev6 c, k0_dev6_lt c⟩ : Dev nD) = peer c ⟨5, by decide⟩ := Fin.ext (by revert c; decide +kernel)
theorem dev7_eq (c : Dev nD) : (⟨k0_dev7 c, k0_dev7_lt c⟩ : Dev nD) = peer c ⟨6, by decide⟩ := Fin.ext (by revert c; decide +kernel)
theorem dev8_eq (c : Dev nD) : (⟨k0_dev8 c, k0_dev8_lt c⟩ : Dev nD) = peer c ⟨7, by decide⟩ := Fin.ext (by revert c; decide +kernel)
theorem dev9_eq (c : Dev nD) : (⟨k0_dev9 c, k0_dev9_lt c⟩ : Dev nD) = peer c ⟨8, by decide⟩ := Fin.ext (by revert c; decide +kernel)
theorem dev10_eq (c : Dev nD) : (⟨k0_dev10 c, k0_dev10_lt c⟩ : Dev nD) = peer c ⟨9, by decide⟩ := Fin.ext (by revert c; decide +kernel)
theorem dev11_eq (c : Dev nD) : (⟨k0_dev11 c, k0_dev11_lt c⟩ : Dev nD) = peer c ⟨10, by decide⟩ := Fin.ext (by revert c; decide +kernel)
theorem dev12_eq (c : Dev nD) : (⟨k0_dev12 c, k0_dev12_lt c⟩ : Dev nD) = peer c ⟨11, by decide⟩ := Fin.ext (by revert c; decide +kernel)
theorem dev13_eq (c : Dev nD) : (⟨k0_dev13 c, k0_dev13_lt c⟩ : Dev nD) = peer c ⟨12, by decide⟩ := Fin.ext (by revert c; decide +kernel)
theorem dev14_eq (c : Dev nD) : (⟨k0_dev14 c, k0_dev14_lt c⟩ : Dev nD) = peer c ⟨13, by decide⟩ := Fin.ext (by revert c; decide +kernel)
theorem dev15_eq (c : Dev nD) : (⟨k0_dev15 c, k0_dev15_lt c⟩ : Dev nD) = peer c ⟨14, by decide⟩ := Fin.ext (by revert c; decide +kernel)
theorem dev16_eq (c : Dev nD) : (⟨k0_dev16 c, k0_dev16_lt c⟩ : Dev nD) = peer c ⟨0, by decide⟩ := Fin.ext (by revert c; decide +kernel)
theorem dev17_eq (c : Dev nD) : (⟨k0_dev17 c, k0_dev17_lt c⟩ : Dev nD) = peer c ⟨1, by decide⟩ := Fin.ext (by revert c; decide +kernel)
theorem dev18_eq (c : Dev nD) : (⟨k0_dev18 c, k0_dev18_lt c⟩ : Dev nD) = peer c ⟨2, by decide⟩ := Fin.ext (by revert c; decide +kernel)
theorem dev19_eq (c : Dev nD) : (⟨k0_dev19 c, k0_dev19_lt c⟩ : Dev nD) = peer c ⟨3, by decide⟩ := Fin.ext (by revert c; decide +kernel)
theorem dev20_eq (c : Dev nD) : (⟨k0_dev20 c, k0_dev20_lt c⟩ : Dev nD) = peer c ⟨4, by decide⟩ := Fin.ext (by revert c; decide +kernel)
theorem dev21_eq (c : Dev nD) : (⟨k0_dev21 c, k0_dev21_lt c⟩ : Dev nD) = peer c ⟨5, by decide⟩ := Fin.ext (by revert c; decide +kernel)
theorem dev22_eq (c : Dev nD) : (⟨k0_dev22 c, k0_dev22_lt c⟩ : Dev nD) = peer c ⟨6, by decide⟩ := Fin.ext (by revert c; decide +kernel)
theorem dev23_eq (c : Dev nD) : (⟨k0_dev23 c, k0_dev23_lt c⟩ : Dev nD) = peer c ⟨7, by decide⟩ := Fin.ext (by revert c; decide +kernel)
theorem dev24_eq (c : Dev nD) : (⟨k0_dev24 c, k0_dev24_lt c⟩ : Dev nD) = peer c ⟨8, by decide⟩ := Fin.ext (by revert c; decide +kernel)
theorem dev25_eq (c : Dev nD) : (⟨k0_dev25 c, k0_dev25_lt c⟩ : Dev nD) = peer c ⟨9, by decide⟩ := Fin.ext (by revert c; decide +kernel)
theorem dev26_eq (c : Dev nD) : (⟨k0_dev26 c, k0_dev26_lt c⟩ : Dev nD) = peer c ⟨10, by decide⟩ := Fin.ext (by revert c; decide +kernel)
theorem dev27_eq (c : Dev nD) : (⟨k0_dev27 c, k0_dev27_lt c⟩ : Dev nD) = peer c ⟨11, by decide⟩ := Fin.ext (by revert c; decide +kernel)
theorem dev28_eq (c : Dev nD) : (⟨k0_dev28 c, k0_dev28_lt c⟩ : Dev nD) = peer c ⟨12, by decide⟩ := Fin.ext (by revert c; decide +kernel)
theorem dev29_eq (c : Dev nD) : (⟨k0_dev29 c, k0_dev29_lt c⟩ : Dev nD) = peer c ⟨13, by decide⟩ := Fin.ext (by revert c; decide +kernel)
theorem dev30_eq (c : Dev nD) : (⟨k0_dev30 c, k0_dev30_lt c⟩ : Dev nD) = peer c ⟨14, by decide⟩ := Fin.ext (by revert c; decide +kernel)

theorem part1 (c : Dev nD)  (Q : (Σ' (d0 : Dev nD) (v2 : BitVec 32) (v3 : Sems sig S_) (v30 : BitVec 32) (c16_i32_18 : BitVec 32), BitVec 1) → sProp 𝕄) :
    iprop(records m ρ K ∗ SigSt c 0 ∗ (∀ v2 v30 a b, SigSt c 2 -∗ Q ⟨c, v2, (SemArray.scalar (sig.barrier 0 rfl) : Sems sig S_), v30, a, b⟩))
      ⊢ wp frame (wpE (defs₀ (F := F)) 𝒱₀ (c : Thread nD τ) none) Set.univ
          (k0_part1 (F := F) xM (Memref.isWhole_whole _) oM (Memref.isWhole_whole _) scM (Memref.isWhole_whole _) cc0_scratch1 cc0_scratch2 ) Q := by
  rw [k0_part1_eq_skeleton]; unfold k0_part1_skel
  simp only [wp_bind]
  iintro ⟨#HR, H, Hk⟩
  iapply (op_id c)
  iapply (op_signal m ρ K c 0 (by decide) _ (dev1_eq c))
  isplitr; · iexact HR
  isplitl [H]; · iexact H
  iintro H
  iapply (op_signal m ρ K c 1 (by decide) _ (dev2_eq c))
  isplitr; · iexact HR
  isplitl [H]; · iexact H
  iintro H
  rw [Prog.pure_eq_ret, wp_ret]; imodintro
  iapply Hk; iexact H

theorem part2 (c : Dev nD) (v2 : BitVec 32) (v30 : BitVec 32) (c16_i32_18 : BitVec 32) (v31 : BitVec 1) (Q : (Σ' (v59 : BitVec 32) (v64 : BitVec 1), BitVec 32) → sProp 𝕄) :
    iprop(records m ρ K ∗ SigSt c 2 ∗ (∀ r, SigSt c 4 -∗ Q r))
      ⊢ wp frame (wpE (defs₀ (F := F)) 𝒱₀ (c : Thread nD τ) none) Set.univ
          (k0_part2 (F := F) xM (Memref.isWhole_whole _) oM (Memref.isWhole_whole _) scM (Memref.isWhole_whole _) cc0_scratch1 cc0_scratch2 c v2 (SemArray.scalar (sig.barrier 0 rfl) : Sems sig S_) v30 c16_i32_18 v31) Q := by
  rw [k0_part2_eq_skeleton]; unfold k0_part2_skel
  simp only [wp_bind]
  iintro ⟨#HR, H, Hk⟩
  iapply (op_signal m ρ K c 2 (by decide) _ (dev3_eq c))
  isplitr; · iexact HR
  isplitl [H]; · iexact H
  iintro H
  iapply (op_signal m ρ K c 3 (by decide) _ (dev4_eq c))
  isplitr; · iexact HR
  isplitl [H]; · iexact H
  iintro H
  rw [Prog.pure_eq_ret, wp_ret]; imodintro
  iapply Hk; iexact H

theorem part3 (c : Dev nD) (v2 : BitVec 32) (v59 : BitVec 32) (v64 : BitVec 1) (v65 : BitVec 32) (Q : (Σ' (v95 : BitVec 32) (c16_i32_63 : BitVec 32), BitVec 1) → sProp 𝕄) :
    iprop(records m ρ K ∗ SigSt c 4 ∗ (∀ r, SigSt c 7 -∗ Q r))
      ⊢ wp frame (wpE (defs₀ (F := F)) 𝒱₀ (c : Thread nD τ) none) Set.univ
          (k0_part3 (F := F) xM (Memref.isWhole_whole _) oM (Memref.isWhole_whole _) scM (Memref.isWhole_whole _) cc0_scratch1 cc0_scratch2 c v2 (SemArray.scalar (sig.barrier 0 rfl) : Sems sig S_) v59 v64 v65) Q := by
  rw [k0_part3_eq_skeleton]; unfold k0_part3_skel
  simp only [wp_bind]
  iintro ⟨#HR, H, Hk⟩
  iapply (op_signal m ρ K c 4 (by decide) _ (dev5_eq c))
  isplitr; · iexact HR
  isplitl [H]; · iexact H
  iintro H
  iapply (op_signal m ρ K c 5 (by decide) _ (dev6_eq c))
  isplitr; · iexact HR
  isplitl [H]; · iexact H
  iintro H
  iapply (op_signal m ρ K c 6 (by decide) _ (dev7_eq c))
  isplitr; · iexact HR
  isplitl [H]; · iexact H
  iintro H
  rw [Prog.pure_eq_ret, wp_ret]; imodintro
  iapply Hk; iexact H

theorem part4 (c : Dev nD) (v2 : BitVec 32) (v95 : BitVec 32) (c16_i32_63 : BitVec 32) (v96 : BitVec 1) (Q : (Σ' (v124 : BitVec 32) (v129 : BitVec 1), BitVec 32) → sProp 𝕄) :
    iprop(records m ρ K ∗ SigSt c 7 ∗ (∀ r, SigSt c 9 -∗ Q r))
      ⊢ wp frame (wpE (defs₀ (F := F)) 𝒱₀ (c : Thread nD τ) none) Set.univ
          (k0_part4 (F := F) xM (Memref.isWhole_whole _) oM (Memref.isWhole_whole _) scM (Memref.isWhole_whole _) cc0_scratch1 cc0_scratch2 c v2 (SemArray.scalar (sig.barrier 0 rfl) : Sems sig S_) v95 c16_i32_63 v96) Q := by
  rw [k0_part4_eq_skeleton]; unfold k0_part4_skel
  simp only [wp_bind]
  iintro ⟨#HR, H, Hk⟩
  iapply (op_signal m ρ K c 7 (by decide) _ (dev8_eq c))
  isplitr; · iexact HR
  isplitl [H]; · iexact H
  iintro H
  iapply (op_signal m ρ K c 8 (by decide) _ (dev9_eq c))
  isplitr; · iexact HR
  isplitl [H]; · iexact H
  iintro H
  rw [Prog.pure_eq_ret, wp_ret]; imodintro
  iapply Hk; iexact H

theorem part5 (c : Dev nD) (v2 : BitVec 32) (v124 : BitVec 32) (v129 : BitVec 1) (v130 : BitVec 32) (Q : (Σ' (v160 : BitVec 32) (c16_i32_108 : BitVec 32), BitVec 1) → sProp 𝕄) :
    iprop(records m ρ K ∗ SigSt c 9 ∗ (∀ r, SigSt c 12 -∗ Q r))
      ⊢ wp frame (wpE (defs₀ (F := F)) 𝒱₀ (c : Thread nD τ) none) Set.univ
          (k0_part5 (F := F) xM (Memref.isWhole_whole _) oM (Memref.isWhole_whole _) scM (Memref.isWhole_whole _) cc0_scratch1 cc0_scratch2 c v2 (SemArray.scalar (sig.barrier 0 rfl) : Sems sig S_) v124 v129 v130) Q := by
  rw [k0_part5_eq_skeleton]; unfold k0_part5_skel
  simp only [wp_bind]
  iintro ⟨#HR, H, Hk⟩
  iapply (op_signal m ρ K c 9 (by decide) _ (dev10_eq c))
  isplitr; · iexact HR
  isplitl [H]; · iexact H
  iintro H
  iapply (op_signal m ρ K c 10 (by decide) _ (dev11_eq c))
  isplitr; · iexact HR
  isplitl [H]; · iexact H
  iintro H
  iapply (op_signal m ρ K c 11 (by decide) _ (dev12_eq c))
  isplitr; · iexact HR
  isplitl [H]; · iexact H
  iintro H
  rw [Prog.pure_eq_ret, wp_ret]; imodintro
  iapply Hk; iexact H

theorem part6 (c : Dev nD) (v2 : BitVec 32) (v160 : BitVec 32) (c16_i32_108 : BitVec 32) (v161 : BitVec 1) (Q : (Σ' (v189 : BitVec 32) (v194 : BitVec 1), BitVec 32) → sProp 𝕄) :
    iprop(records m ρ K ∗ SigSt c 12 ∗ (∀ r, SigSt c 14 -∗ Q r))
      ⊢ wp frame (wpE (defs₀ (F := F)) 𝒱₀ (c : Thread nD τ) none) Set.univ
          (k0_part6 (F := F) xM (Memref.isWhole_whole _) oM (Memref.isWhole_whole _) scM (Memref.isWhole_whole _) cc0_scratch1 cc0_scratch2 c v2 (SemArray.scalar (sig.barrier 0 rfl) : Sems sig S_) v160 c16_i32_108 v161) Q := by
  rw [k0_part6_eq_skeleton]; unfold k0_part6_skel
  simp only [wp_bind]
  iintro ⟨#HR, H, Hk⟩
  iapply (op_signal m ρ K c 12 (by decide) _ (dev13_eq c))
  isplitr; · iexact HR
  isplitl [H]; · iexact H
  iintro H
  iapply (op_signal m ρ K c 13 (by decide) _ (dev14_eq c))
  isplitr; · iexact HR
  isplitl [H]; · iexact H
  iintro H
  rw [Prog.pure_eq_ret, wp_ret]; imodintro
  iapply Hk; iexact H

theorem part7 (c : Dev nD) (v189 : BitVec 32) (v194 : BitVec 1) (v195 : BitVec 32) (Q : (FVec F S256x1024 .f32) → sProp 𝕄) :
    iprop(records m ρ K ∗ SigSt c 14 ∗ levAts L lv ∗ cred (tallyAt (barCell c) () 15) ∗ atPos ER (barCell c) 0 ∅ 0 ∗ XSt m ρ c ∗ RowSt m ρ c 0 ∗ (((∃ W, owes (c : Thread nD τ) (sndO c 0) W) ∗ (bigSep Finset.univ fun k : Fin 15 => iprop(∃ f, slotPts (F := F) (peer c k) k.castSucc fullShare f)) ∗ semVal (barCell c) 0 ∗ XSt m ρ c ∗ RowSt m ρ c 3) -∗ Q (k0_pay14 (xstg m ρ c))))
      ⊢ wp frame (wpE (defs₀ (F := F)) 𝒱₀ (c : Thread nD τ) none) Set.univ
          (k0_part7 (F := F) xM (Memref.isWhole_whole _) oM (Memref.isWhole_whole _) scM (Memref.isWhole_whole _) cc0_scratch1 cc0_scratch2 c (SemArray.scalar (sig.barrier 0 rfl) : Sems sig S_) v189 v194 v195) Q := by
  rw [k0_part7_eq_skeleton]; unfold k0_part7_skel
  simp only [wp_bind]
  iintro ⟨#HR, H, #Hlev, HcB, HaB, Hx, Hr, Hk⟩
  iapply (op_signal m ρ K c 14 (by decide) _ (dev15_eq c))
  isplitr; · iexact HR
  isplitl [H]; · iexact H
  iintro H
  iapply (op_wait_bar m ρ K c)
  isplitr; · iexact HR
  isplitl [H]; · iexact H
  isplitr; · iexact Hlev
  isplitl [HcB]; · iexact HcB
  isplitl [HaB]; · iexact HaB
  iintro ⟨HO, Hp, HzB⟩
  iapply (op_x_load m ρ c)
  isplitl [Hx]; · iexact Hx
  iintro Hx
  iapply (op_row_load m ρ c 0 0)
  isplitl [Hr]; · iexact Hr
  iintro %_ Hr
  iapply (op_row m ρ c 0 _ rfl)
  isplitl [Hr]; · iexact Hr
  iintro Hr
  iapply (op_row_load m ρ c 1 1)
  isplitl [Hr]; · iexact Hr
  iintro %_ Hr
  iapply (op_row m ρ c 1 _ rfl)
  isplitl [Hr]; · iexact Hr
  iintro Hr
  iapply (op_row_load m ρ c 2 2)
  isplitl [Hr]; · iexact Hr
  iintro %_ Hr
  iapply (op_row m ρ c 2 _ rfl)
  isplitl [Hr]; · iexact Hr
  iintro Hr
  rw [Prog.pure_eq_ret, wp_ret]; imodintro
  iapply Hk
  isplitl [HO]; · iexact HO
  isplitl [Hp]; · iexact Hp
  isplitl [HzB]; · iexact HzB
  isplitl [Hx]; · iexact Hx
  iexact Hr

theorem part8 (c : Dev nD)  (Q : (FVec F S256x1024 .f32) → sProp 𝕄) :
    iprop(records m ρ K ∗ RowSt m ρ c 3 ∗ (RowSt m ρ c 7 -∗ Q (k0_pay26 (k0_pay14 (xstg m ρ c)))))
      ⊢ wp frame (wpE (defs₀ (F := F)) 𝒱₀ (c : Thread nD τ) none) Set.univ
          (k0_part8 (F := F) xM (Memref.isWhole_whole _) oM (Memref.isWhole_whole _) scM (Memref.isWhole_whole _) cc0_scratch1 cc0_scratch2 (k0_pay14 (xstg m ρ c))) Q := by
  rw [k0_part8_eq_skeleton]; unfold k0_part8_skel
  simp only [wp_bind]
  iintro ⟨#HR, Hr, Hk⟩
  iapply (op_row_load m ρ c 3 3)
  isplitl [Hr]; · iexact Hr
  iintro %_ Hr
  iapply (op_row m ρ c 3 _ rfl)
  isplitl [Hr]; · iexact Hr
  iintro Hr
  iapply (op_row_load m ρ c 4 4)
  isplitl [Hr]; · iexact Hr
  iintro %_ Hr
  iapply (op_row m ρ c 4 _ rfl)
  isplitl [Hr]; · iexact Hr
  iintro Hr
  iapply (op_row_load m ρ c 5 5)
  isplitl [Hr]; · iexact Hr
  iintro %_ Hr
  iapply (op_row m ρ c 5 _ rfl)
  isplitl [Hr]; · iexact Hr
  iintro Hr
  iapply (op_row_load m ρ c 6 6)
  isplitl [Hr]; · iexact Hr
  iintro %_ Hr
  iapply (op_row m ρ c 6 _ rfl)
  isplitl [Hr]; · iexact Hr
  iintro Hr
  rw [Prog.pure_eq_ret, wp_ret]; imodintro
  iapply Hk; iexact Hr

end Cert.KernelIdeal.Top

end
-- ==== Proof.Ideal.PartsB.lean ====
/-
# The fifteen copies
-/
module

public import proofs.«01_k».proof.Proof.Ideal.PartsA

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

variable (K : Dev nD × Kd → ℕ)

theorem part9 (c : Dev nD) (v2 : BitVec 32) (Q : (Σ' (v278 : BitVec 32) (v291 : BitVec 32) (v292 : BitVec 32) (v293 : BitVec 1) (v294 : BitVec 1), BitVec 32) → sProp 𝕄) :
    iprop(records m ρ K ∗ RowSt m ρ c 7 ∗ (∃ W, owes (c : Thread nD τ) (sndO c 0) W) ∗ (bigSep Finset.univ fun k : Fin 15 => iprop(∃ f, slotPts (F := F) (peer c k) k.castSucc fullShare f)) ∗ (bigSep Finset.univ fun k : Fin 15 => dutyTok ER (sendCell c k) 0 0) ∗ (bigSep Finset.univ fun k : Fin 15 => dutyTok ER (recvCell (peer c k) k) 0 0) ∗ (∀ r, SndSt m ρ c 1 -∗ Q r))
      ⊢ wp frame (wpE (defs₀ (F := F)) 𝒱₀ (c : Thread nD τ) none) Set.univ
          (k0_part9 (F := F) xM (Memref.isWhole_whole _) oM (Memref.isWhole_whole _) scM (Memref.isWhole_whole _) cc0_scratch1 cc0_scratch2 c v2 (k0_pay26 (k0_pay14 (xstg m ρ c)))) Q := by
  rw [k0_part9_eq_skeleton]; unfold k0_part9_skel
  simp only [wp_bind]
  iintro ⟨#HR, Hr, HO, Hp, HtS, HtV, Hk⟩
  iapply (op_row_load m ρ c 7 7)
  isplitl [Hr]; · iexact Hr
  iintro %_ Hr
  iapply (op_row m ρ c 7 _ rfl)
  isplitl [Hr]; · iexact Hr
  iintro Hr
  ihave H := (begin_send m ρ c) $$ [HO Hr Hp HtS HtV]
  · isplitl [HO]; · iexact HO
    isplitl [Hr]; · iexact Hr
    isplitl [Hp]; · iexact Hp
    isplitl [HtS] <;> iassumption
  iapply (op_send m ρ K c 0 (by decide) _ (dev16_eq c) _ rfl _ rfl)
  isplitr; · iexact HR
  isplitl [H]; · iexact H
  iintro H
  rw [Prog.pure_eq_ret, wp_ret]; imodintro
  iapply Hk; iexact H

theorem part10 (c : Dev nD) (v2 : BitVec 32) (v291 : BitVec 32) (v292 : BitVec 32) (v293 : BitVec 1) (v294 : BitVec 1) (c0_i32_190 : BitVec 32) (Q : (Σ' (v299 : BitVec 32), BitVec 32) → sProp 𝕄) :
    iprop(records m ρ K ∗ SndSt m ρ c 1 ∗ (∀ r, SndSt m ρ c 2 -∗ Q r))
      ⊢ wp frame (wpE (defs₀ (F := F)) 𝒱₀ (c : Thread nD τ) none) Set.univ
          (k0_part10 (F := F) xM (Memref.isWhole_whole _) oM (Memref.isWhole_whole _) scM (Memref.isWhole_whole _) cc0_scratch1 cc0_scratch2 c v2 v291 v292 v293 v294 c0_i32_190) Q := by
  rw [k0_part10_eq_skeleton]; unfold k0_part10_skel
  simp only [wp_bind]
  iintro ⟨#HR, H, Hk⟩
  iapply (op_send m ρ K c 1 (by decide) _ (dev17_eq c) _ rfl _ rfl)
  isplitr; · iexact HR
  isplitl [H]; · iexact H
  iintro H
  rw [Prog.pure_eq_ret, wp_ret]; imodintro
  iapply Hk; iexact H

theorem part11 (c : Dev nD) (v2 : BitVec 32) (Q : (Σ' (v341 : BitVec 32) (v354 : BitVec 32) (v355 : BitVec 32), BitVec 1) → sProp 𝕄) :
    iprop(records m ρ K ∗ SndSt m ρ c 2 ∗ (∀ r, SndSt m ρ c 4 -∗ Q r))
      ⊢ wp frame (wpE (defs₀ (F := F)) 𝒱₀ (c : Thread nD τ) none) Set.univ
          (k0_part11 (F := F) xM (Memref.isWhole_whole _) oM (Memref.isWhole_whole _) scM (Memref.isWhole_whole _) cc0_scratch1 cc0_scratch2 c v2) Q := by
  rw [k0_part11_eq_skeleton]; unfold k0_part11_skel
  simp only [wp_bind]
  iintro ⟨#HR, H, Hk⟩
  iapply (op_send m ρ K c 2 (by decide) _ (dev18_eq c) _ rfl _ rfl)
  isplitr; · iexact HR
  isplitl [H]; · iexact H
  iintro H
  iapply (op_send m ρ K c 3 (by decide) _ (dev19_eq c) _ rfl _ rfl)
  isplitr; · iexact HR
  isplitl [H]; · iexact H
  iintro H
  rw [Prog.pure_eq_ret, wp_ret]; imodintro
  iapply Hk; iexact H

theorem part12 (c : Dev nD) (v2 : BitVec 32) (v354 : BitVec 32) (v355 : BitVec 32) (v360 : BitVec 1) (Q : (Σ' (v362 : BitVec 32), BitVec 32) → sProp 𝕄) :
    iprop(records m ρ K ∗ SndSt m ρ c 4 ∗ (∀ r, SndSt m ρ c 5 -∗ Q r))
      ⊢ wp frame (wpE (defs₀ (F := F)) 𝒱₀ (c : Thread nD τ) none) Set.univ
          (k0_part12 (F := F) xM (Memref.isWhole_whole _) oM (Memref.isWhole_whole _) scM (Memref.isWhole_whole _) cc0_scratch1 cc0_scratch2 c v2 v354 v355 v360) Q := by
  rw [k0_part12_eq_skeleton]; unfold k0_part12_skel
  simp only [wp_bind]
  iintro ⟨#HR, H, Hk⟩
  iapply (op_send m ρ K c 4 (by decide) _ (dev20_eq c) _ rfl _ rfl)
  isplitr; · iexact HR
  isplitl [H]; · iexact H
  iintro H
  rw [Prog.pure_eq_ret, wp_ret]; imodintro
  iapply Hk; iexact H

theorem part13 (c : Dev nD) (v2 : BitVec 32) (Q : (Σ' (v404 : BitVec 32), BitVec 32) → sProp 𝕄) :
    iprop(records m ρ K ∗ SndSt m ρ c 5 ∗ (∀ r, SndSt m ρ c 7 -∗ Q r))
      ⊢ wp frame (wpE (defs₀ (F := F)) 𝒱₀ (c : Thread nD τ) none) Set.univ
          (k0_part13 (F := F) xM (Memref.isWhole_whole _) oM (Memref.isWhole_whole _) scM (Memref.isWhole_whole _) cc0_scratch1 cc0_scratch2 c v2) Q := by
  rw [k0_part13_eq_skeleton]; unfold k0_part13_skel
  simp only [wp_bind]
  iintro ⟨#HR, H, Hk⟩
  iapply (op_send m ρ K c 5 (by decide) _ (dev21_eq c) _ rfl _ rfl)
  isplitr; · iexact HR
  isplitl [H]; · iexact H
  iintro H
  iapply (op_send m ρ K c 6 (by decide) _ (dev22_eq c) _ rfl _ rfl)
  isplitr; · iexact HR
  isplitl [H]; · iexact H
  iintro H
  rw [Prog.pure_eq_ret, wp_ret]; imodintro
  iapply Hk; iexact H

theorem part14 (c : Dev nD) (v2 : BitVec 32) (v425 : BitVec 32) (Q : (Σ' (v446 : BitVec 32), BitVec 32) → sProp 𝕄) :
    iprop(records m ρ K ∗ SndSt m ρ c 7 ∗ (∀ r, SndSt m ρ c 9 -∗ Q r))
      ⊢ wp frame (wpE (defs₀ (F := F)) 𝒱₀ (c : Thread nD τ) none) Set.univ
          (k0_part14 (F := F) xM (Memref.isWhole_whole _) oM (Memref.isWhole_whole _) scM (Memref.isWhole_whole _) cc0_scratch1 cc0_scratch2 c v2 v425) Q := by
  rw [k0_part14_eq_skeleton]; unfold k0_part14_skel
  simp only [wp_bind]
  iintro ⟨#HR, H, Hk⟩
  iapply (op_send m ρ K c 7 (by decide) _ (dev23_eq c) _ rfl _ rfl)
  isplitr; · iexact HR
  isplitl [H]; · iexact H
  iintro H
  iapply (op_send m ρ K c 8 (by decide) _ (dev24_eq c) _ rfl _ rfl)
  isplitr; · iexact HR
  isplitl [H]; · iexact H
  iintro H
  rw [Prog.pure_eq_ret, wp_ret]; imodintro
  iapply Hk; iexact H

theorem part15 (c : Dev nD) (v2 : BitVec 32) (c10_i32_320 : BitVec 32) (Q : (Σ' (v467 : BitVec 32), BitVec 32) → sProp 𝕄) :
    iprop(records m ρ K ∗ SndSt m ρ c 9 ∗ (∀ r, SndSt m ρ c 10 -∗ Q r))
      ⊢ wp frame (wpE (defs₀ (F := F)) 𝒱₀ (c : Thread nD τ) none) Set.univ
          (k0_part15 (F := F) xM (Memref.isWhole_whole _) oM (Memref.isWhole_whole _) scM (Memref.isWhole_whole _) cc0_scratch1 cc0_scratch2 c v2 c10_i32_320) Q := by
  rw [k0_part15_eq_skeleton]; unfold k0_part15_skel
  simp only [wp_bind]
  iintro ⟨#HR, H, Hk⟩
  iapply (op_send m ρ K c 9 (by decide) _ (dev25_eq c) _ rfl _ rfl)
  isplitr; · iexact HR
  isplitl [H]; · iexact H
  iintro H
  rw [Prog.pure_eq_ret, wp_ret]; imodintro
  iapply Hk; iexact H

theorem part16 (c : Dev nD) (v2 : BitVec 32) (v488 : BitVec 32) (Q : (Σ' (v509 : BitVec 32) (v520 : BitVec 32) (c16_i32_372 : BitVec 32), BitVec 32) → sProp 𝕄) :
    iprop(records m ρ K ∗ SndSt m ρ c 10 ∗ (∀ r, SndSt m ρ c 12 -∗ Q r))
      ⊢ wp frame (wpE (defs₀ (F := F)) 𝒱₀ (c : Thread nD τ) none) Set.univ
          (k0_part16 (F := F) xM (Memref.isWhole_whole _) oM (Memref.isWhole_whole _) scM (Memref.isWhole_whole _) cc0_scratch1 cc0_scratch2 c v2 v488) Q := by
  rw [k0_part16_eq_skeleton]; unfold k0_part16_skel
  simp only [wp_bind]
  iintro ⟨#HR, H, Hk⟩
  iapply (op_send m ρ K c 10 (by decide) _ (dev26_eq c) _ rfl _ rfl)
  isplitr; · iexact HR
  isplitl [H]; · iexact H
  iintro H
  iapply (op_send m ρ K c 11 (by decide) _ (dev27_eq c) _ rfl _ rfl)
  isplitr; · iexact HR
  isplitl [H]; · iexact H
  iintro H
  rw [Prog.pure_eq_ret, wp_ret]; imodintro
  iapply Hk; iexact H

theorem part17 (c : Dev nD) (v2 : BitVec 32) (v520 : BitVec 32) (c16_i32_372 : BitVec 32) (c0_i32_373 : BitVec 32) (Q : (Σ' (v530 : BitVec 32) (v551 : BitVec 32) (v552 : BitVec 32), BitVec 32) → sProp 𝕄) :
    iprop(records m ρ K ∗ SndSt m ρ c 12 ∗ (∀ r, SndSt m ρ c 13 -∗ Q r))
      ⊢ wp frame (wpE (defs₀ (F := F)) 𝒱₀ (c : Thread nD τ) none) Set.univ
          (k0_part17 (F := F) xM (Memref.isWhole_whole _) oM (Memref.isWhole_whole _) scM (Memref.isWhole_whole _) cc0_scratch1 cc0_scratch2 c v2 v520 c16_i32_372 c0_i32_373) Q := by
  rw [k0_part17_eq_skeleton]; unfold k0_part17_skel
  simp only [wp_bind]
  iintro ⟨#HR, H, Hk⟩
  iapply (op_send m ρ K c 12 (by decide) _ (dev28_eq c) _ rfl _ rfl)
  isplitr; · iexact HR
  isplitl [H]; · iexact H
  iintro H
  rw [Prog.pure_eq_ret, wp_ret]; imodintro
  iapply Hk; iexact H

theorem part18 (c : Dev nD) (v2 : BitVec 32) (v552 : BitVec 32) (c0_i32_400 : BitVec 32) (Q : (BitVec 32) → sProp 𝕄) :
    iprop(records m ρ K ∗ SndSt m ρ c 13 ∗ (∀ r, SndSt m ρ c 15 -∗ Q r))
      ⊢ wp frame (wpE (defs₀ (F := F)) 𝒱₀ (c : Thread nD τ) none) Set.univ
          (k0_part18 (F := F) xM (Memref.isWhole_whole _) oM (Memref.isWhole_whole _) scM (Memref.isWhole_whole _) cc0_scratch1 cc0_scratch2 c v2 v552 c0_i32_400) Q := by
  rw [k0_part18_eq_skeleton]; unfold k0_part18_skel
  simp only [wp_bind]
  iintro ⟨#HR, H, Hk⟩
  iapply (op_send m ρ K c 13 (by decide) _ (dev29_eq c) _ rfl _ rfl)
  isplitr; · iexact HR
  isplitl [H]; · iexact H
  iintro H
  iapply (op_send m ρ K c 14 (by decide) _ (dev30_eq c) _ rfl _ rfl)
  isplitr; · iexact HR
  isplitl [H]; · iexact H
  iintro H
  rw [Prog.pure_eq_ret, wp_ret]; imodintro
  iapply Hk; iexact H

end Cert.KernelIdeal.Top

end
-- ==== Proof.Ideal.PartsC.lean ====
/-
# The thirty waits and the result columns
-/
module

public import proofs.«01_k».proof.Proof.Ideal.Mem

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

variable (K : Dev nD × Kd → ℕ)

theorem part19 (c : Dev nD) (v278 : BitVec 32) (v299 : BitVec 32) (Q : (PUnit) → sProp 𝕄) :
    iprop(records m ρ K ∗ WtSt m ρ c 0 0 ∗ (∀ r, WtSt m ρ c 2 1 -∗ Q r))
      ⊢ wp frame (wpE (defs₀ (F := F)) 𝒱₀ (c : Thread nD τ) none) Set.univ
          (k0_part19 (F := F) xM (Memref.isWhole_whole _) oM (Memref.isWhole_whole _) scM (Memref.isWhole_whole _) cc0_scratch1 cc0_scratch2 v278 v299) Q := by
  rw [k0_part19_eq_skeleton]; unfold k0_part19_skel
  simp only [wp_bind]
  iintro ⟨#HR, H, Hk⟩
  iapply (op_wait_send m ρ K c 0 (by decide) 0 _ rfl _ _ (credit_slot 15))
  isplitr; · iexact HR
  isplitl [H]; · iexact H
  iintro H
  iapply (op_wait_recv m ρ K c 1 0 (by decide) _ rfl _ _ (credit_slot 0))
  isplitr; · iexact HR
  isplitl [H]; · iexact H
  iintro H
  iapply (op_wait_send m ρ K c 1 (by decide) 1 _ rfl _ _ (credit_slot 15))
  isplitr; · iexact HR
  isplitl [H]; · iexact H
  iintro H
  rw [Prog.pure_eq_ret, wp_ret]; imodintro
  iapply Hk; iexact H

theorem part20 (c : Dev nD) (v320 : BitVec 32) (v341 : BitVec 32) (Q : (BitVec 32) → sProp 𝕄) :
    iprop(records m ρ K ∗ WtSt m ρ c 2 1 ∗ (∀ r, WtSt m ρ c 4 3 -∗ Q r))
      ⊢ wp frame (wpE (defs₀ (F := F)) 𝒱₀ (c : Thread nD τ) none) Set.univ
          (k0_part20 (F := F) xM (Memref.isWhole_whole _) oM (Memref.isWhole_whole _) scM (Memref.isWhole_whole _) cc0_scratch1 cc0_scratch2 v320 v341) Q := by
  rw [k0_part20_eq_skeleton]; unfold k0_part20_skel
  simp only [wp_bind]
  iintro ⟨#HR, H, Hk⟩
  iapply (op_wait_recv m ρ K c 2 1 (by decide) _ rfl _ _ (credit_slot 1))
  isplitr; · iexact HR
  isplitl [H]; · iexact H
  iintro H
  iapply (op_wait_send m ρ K c 2 (by decide) 2 _ rfl _ _ (credit_slot 15))
  isplitr; · iexact HR
  isplitl [H]; · iexact H
  iintro H
  iapply (op_wait_recv m ρ K c 3 2 (by decide) _ rfl _ _ (credit_slot 2))
  isplitr; · iexact HR
  isplitl [H]; · iexact H
  iintro H
  iapply (op_wait_send m ρ K c 3 (by decide) 3 _ rfl _ _ (credit_slot 15))
  isplitr; · iexact HR
  isplitl [H]; · iexact H
  iintro H
  rw [Prog.pure_eq_ret, wp_ret]; imodintro
  iapply Hk; iexact H

theorem part21 (c : Dev nD) (v362 : BitVec 32) (v631 : BitVec 32) (Q : (PUnit) → sProp 𝕄) :
    iprop(records m ρ K ∗ WtSt m ρ c 4 3 ∗ (∀ r, WtSt m ρ c 5 5 -∗ Q r))
      ⊢ wp frame (wpE (defs₀ (F := F)) 𝒱₀ (c : Thread nD τ) none) Set.univ
          (k0_part21 (F := F) xM (Memref.isWhole_whole _) oM (Memref.isWhole_whole _) scM (Memref.isWhole_whole _) cc0_scratch1 cc0_scratch2 v362 v631) Q := by
  rw [k0_part21_eq_skeleton]; unfold k0_part21_skel
  simp only [wp_bind]
  iintro ⟨#HR, H, Hk⟩
  iapply (op_wait_recv m ρ K c 4 3 (by decide) _ rfl _ _ (credit_slot 3))
  isplitr; · iexact HR
  isplitl [H]; · iexact H
  iintro H
  iapply (op_wait_send m ρ K c 4 (by decide) 4 _ rfl _ _ (credit_slot 15))
  isplitr; · iexact HR
  isplitl [H]; · iexact H
  iintro H
  iapply (op_wait_recv m ρ K c 5 4 (by decide) _ rfl _ _ (credit_slot 4))
  isplitr; · iexact HR
  isplitl [H]; · iexact H
  iintro H
  rw [Prog.pure_eq_ret, wp_ret]; imodintro
  iapply Hk; iexact H

theorem part22 (c : Dev nD) (v383 : BitVec 32) (v404 : BitVec 32) (Q : (PUnit) → sProp 𝕄) :
    iprop(records m ρ K ∗ WtSt m ρ c 5 5 ∗ (∀ r, WtSt m ρ c 7 7 -∗ Q r))
      ⊢ wp frame (wpE (defs₀ (F := F)) 𝒱₀ (c : Thread nD τ) none) Set.univ
          (k0_part22 (F := F) xM (Memref.isWhole_whole _) oM (Memref.isWhole_whole _) scM (Memref.isWhole_whole _) cc0_scratch1 cc0_scratch2 v383 v404) Q := by
  rw [k0_part22_eq_skeleton]; unfold k0_part22_skel
  simp only [wp_bind]
  iintro ⟨#HR, H, Hk⟩
  iapply (op_wait_send m ρ K c 5 (by decide) 5 _ rfl _ _ (credit_slot 15))
  isplitr; · iexact HR
  isplitl [H]; · iexact H
  iintro H
  iapply (op_wait_recv m ρ K c 6 5 (by decide) _ rfl _ _ (credit_slot 5))
  isplitr; · iexact HR
  isplitl [H]; · iexact H
  iintro H
  iapply (op_wait_send m ρ K c 6 (by decide) 6 _ rfl _ _ (credit_slot 15))
  isplitr; · iexact HR
  isplitl [H]; · iexact H
  iintro H
  iapply (op_wait_recv m ρ K c 7 6 (by decide) _ rfl _ _ (credit_slot 6))
  isplitr; · iexact HR
  isplitl [H]; · iexact H
  iintro H
  rw [Prog.pure_eq_ret, wp_ret]; imodintro
  iapply Hk; iexact H

theorem part23 (c : Dev nD) (v425 : BitVec 32) (v446 : BitVec 32) (Q : (PUnit) → sProp 𝕄) :
    iprop(records m ρ K ∗ WtSt m ρ c 7 7 ∗ (∀ r, WtSt m ρ c 9 8 -∗ Q r))
      ⊢ wp frame (wpE (defs₀ (F := F)) 𝒱₀ (c : Thread nD τ) none) Set.univ
          (k0_part23 (F := F) xM (Memref.isWhole_whole _) oM (Memref.isWhole_whole _) scM (Memref.isWhole_whole _) cc0_scratch1 cc0_scratch2 v425 v446) Q := by
  rw [k0_part23_eq_skeleton]; unfold k0_part23_skel
  simp only [wp_bind]
  iintro ⟨#HR, H, Hk⟩
  iapply (op_wait_send m ρ K c 7 (by decide) 7 _ rfl _ _ (credit_slot 15))
  isplitr; · iexact HR
  isplitl [H]; · iexact H
  iintro H
  iapply (op_wait_recv m ρ K c 8 7 (by decide) _ rfl _ _ (credit_slot 7))
  isplitr; · iexact HR
  isplitl [H]; · iexact H
  iintro H
  iapply (op_wait_send m ρ K c 8 (by decide) 8 _ rfl _ _ (credit_slot 15))
  isplitr; · iexact HR
  isplitl [H]; · iexact H
  iintro H
  rw [Prog.pure_eq_ret, wp_ret]; imodintro
  iapply Hk; iexact H

theorem part24 (c : Dev nD) (v467 : BitVec 32) (Q : (PUnit) → sProp 𝕄) :
    iprop(records m ρ K ∗ WtSt m ρ c 9 8 ∗ (∀ r, WtSt m ρ c 11 10 -∗ Q r))
      ⊢ wp frame (wpE (defs₀ (F := F)) 𝒱₀ (c : Thread nD τ) none) Set.univ
          (k0_part24 (F := F) xM (Memref.isWhole_whole _) oM (Memref.isWhole_whole _) scM (Memref.isWhole_whole _) cc0_scratch1 cc0_scratch2 v467) Q := by
  rw [k0_part24_eq_skeleton]; unfold k0_part24_skel
  simp only [wp_bind]
  iintro ⟨#HR, H, Hk⟩
  iapply (op_wait_recv m ρ K c 9 8 (by decide) _ rfl _ _ (credit_slot 8))
  isplitr; · iexact HR
  isplitl [H]; · iexact H
  iintro H
  iapply (op_wait_send m ρ K c 9 (by decide) 9 _ rfl _ _ (credit_slot 15))
  isplitr; · iexact HR
  isplitl [H]; · iexact H
  iintro H
  iapply (op_wait_recv m ρ K c 10 9 (by decide) _ rfl _ _ (credit_slot 9))
  isplitr; · iexact HR
  isplitl [H]; · iexact H
  iintro H
  iapply (op_wait_send m ρ K c 10 (by decide) 10 _ rfl _ _ (credit_slot 15))
  isplitr; · iexact HR
  isplitl [H]; · iexact H
  iintro H
  rw [Prog.pure_eq_ret, wp_ret]; imodintro
  iapply Hk; iexact H

theorem part25 (c : Dev nD) (v488 : BitVec 32) (v509 : BitVec 32) (Q : (PUnit) → sProp 𝕄) :
    iprop(records m ρ K ∗ WtSt m ρ c 11 10 ∗ (∀ r, WtSt m ρ c 12 12 -∗ Q r))
      ⊢ wp frame (wpE (defs₀ (F := F)) 𝒱₀ (c : Thread nD τ) none) Set.univ
          (k0_part25 (F := F) xM (Memref.isWhole_whole _) oM (Memref.isWhole_whole _) scM (Memref.isWhole_whole _) cc0_scratch1 cc0_scratch2 v488 v509) Q := by
  rw [k0_part25_eq_skeleton]; unfold k0_part25_skel
  simp only [wp_bind]
  iintro ⟨#HR, H, Hk⟩
  iapply (op_wait_recv m ρ K c 11 10 (by decide) _ rfl _ _ (credit_slot 10))
  isplitr; · iexact HR
  isplitl [H]; · iexact H
  iintro H
  iapply (op_wait_send m ρ K c 11 (by decide) 11 _ rfl _ _ (credit_slot 15))
  isplitr; · iexact HR
  isplitl [H]; · iexact H
  iintro H
  iapply (op_wait_recv m ρ K c 12 11 (by decide) _ rfl _ _ (credit_slot 11))
  isplitr; · iexact HR
  isplitl [H]; · iexact H
  iintro H
  rw [Prog.pure_eq_ret, wp_ret]; imodintro
  iapply Hk; iexact H

theorem part26 (c : Dev nD) (v530 : BitVec 32) (v551 : BitVec 32) (Q : (PUnit) → sProp 𝕄) :
    iprop(records m ρ K ∗ WtSt m ρ c 12 12 ∗ (∀ r, WtSt m ρ c 14 13 -∗ Q r))
      ⊢ wp frame (wpE (defs₀ (F := F)) 𝒱₀ (c : Thread nD τ) none) Set.univ
          (k0_part26 (F := F) xM (Memref.isWhole_whole _) oM (Memref.isWhole_whole _) scM (Memref.isWhole_whole _) cc0_scratch1 cc0_scratch2 v530 v551) Q := by
  rw [k0_part26_eq_skeleton]; unfold k0_part26_skel
  simp only [wp_bind]
  iintro ⟨#HR, H, Hk⟩
  iapply (op_wait_send m ρ K c 12 (by decide) 12 _ rfl _ _ (credit_slot 15))
  isplitr; · iexact HR
  isplitl [H]; · iexact H
  iintro H
  iapply (op_wait_recv m ρ K c 13 12 (by decide) _ rfl _ _ (credit_slot 12))
  isplitr; · iexact HR
  isplitl [H]; · iexact H
  iintro H
  iapply (op_wait_send m ρ K c 13 (by decide) 13 _ rfl _ _ (credit_slot 15))
  isplitr; · iexact HR
  isplitl [H]; · iexact H
  iintro H
  rw [Prog.pure_eq_ret, wp_ret]; imodintro
  iapply Hk; iexact H

theorem part27 (c : Dev nD) (v572 : BitVec 32) (Q : (Σ' (v803 : FVec F S128x256 .f32), FVec F S256 .f32) → sProp 𝕄) :
    iprop(records m ρ K ∗ WtSt m ρ c 14 13 ∗ ColSt m ρ c 0 ∗ (((∃ W, owes (c : Thread nD τ) 0 W) ∗ ScrSt m ρ c ∗ (bigSep Finset.univ fun k : Fin 15 => semVal (sendCell c k) 0) ∗ (bigSep Finset.univ fun k : Fin 15 => semVal (recvCell c k) 0) ∗ ColSt m ρ c 1) -∗ Q ⟨k0_pay31 (cand m ρ c), k0_pay32 (cand m ρ c)⟩))
      ⊢ wp frame (wpE (defs₀ (F := F)) 𝒱₀ (c : Thread nD τ) none) Set.univ
          (k0_part27 (F := F) xM (Memref.isWhole_whole _) oM (Memref.isWhole_whole _) scM (Memref.isWhole_whole _) cc0_scratch1 cc0_scratch2 v572) Q := by
  rw [k0_part27_eq_skeleton]; unfold k0_part27_skel
  simp only [wp_bind]
  iintro ⟨#HR, H, Hc, Hk⟩
  iapply (op_wait_recv m ρ K c 14 13 (by decide) _ rfl _ _ (credit_slot 13))
  isplitr; · iexact HR
  isplitl [H]; · iexact H
  iintro H
  iapply (op_wait_send m ρ K c 14 (by decide) 14 _ rfl _ _ (credit_slot 15))
  isplitr; · iexact HR
  isplitl [H]; · iexact H
  iintro H
  iapply (op_wait_recv m ρ K c 15 14 (by decide) _ rfl _ _ (credit_slot 14))
  isplitr; · iexact HR
  isplitl [H]; · iexact H
  iintro H
  ihave H := (end_wait m ρ c) $$ H
  icases H with ⟨HO, Hs, HzS, HzV⟩
  iapply (op_scr_load m ρ c)
  isplitl [Hs]; · iexact Hs
  iintro Hs
  iapply (op_col_load m ρ c 0 0)
  isplitl [Hc]; · iexact Hc
  iintro %_ Hc
  iapply (op_col m ρ c 0 _ rfl)
  isplitl [Hc]; · iexact Hc
  iintro Hc
  rw [Prog.pure_eq_ret, wp_ret]; imodintro
  iapply Hk
  isplitl [HO]; · iexact HO
  isplitl [Hs]; · iexact Hs
  isplitl [HzS]; · iexact HzS
  isplitl [HzV]; · iexact HzV
  iexact Hc

theorem part28 (c : Dev nD)  (Q : (Σ' (v839 : FVec F S128x256 .f32) (v840 : FVec F S256 .f32), FVec F S256x1 .f32) → sProp 𝕄) :
    iprop(records m ρ K ∗ ColSt m ρ c 1 ∗ (ColSt m ρ c 5 -∗ Q ⟨k0_pay43 (k0_pay31 (cand m ρ c)) (k0_pay32 (cand m ρ c)), k0_pay44 (k0_pay31 (cand m ρ c)) (k0_pay32 (cand m ρ c)), k0_pay45 (k0_pay31 (cand m ρ c)) (k0_pay32 (cand m ρ c))⟩))
      ⊢ wp frame (wpE (defs₀ (F := F)) 𝒱₀ (c : Thread nD τ) none) Set.univ
          (k0_part28 (F := F) xM (Memref.isWhole_whole _) oM (Memref.isWhole_whole _) scM (Memref.isWhole_whole _) cc0_scratch1 cc0_scratch2 (k0_pay31 (cand m ρ c)) (k0_pay32 (cand m ρ c))) Q := by
  rw [k0_part28_eq_skeleton]; unfold k0_part28_skel
  simp only [wp_bind]
  iintro ⟨#HR, Hc, Hk⟩
  iapply (op_col_load m ρ c 1 1)
  isplitl [Hc]; · iexact Hc
  iintro %_ Hc
  iapply (op_col m ρ c 1 _ rfl)
  isplitl [Hc]; · iexact Hc
  iintro Hc
  iapply (op_col_load m ρ c 2 2)
  isplitl [Hc]; · iexact Hc
  iintro %_ Hc
  iapply (op_col m ρ c 2 _ rfl)
  isplitl [Hc]; · iexact Hc
  iintro Hc
  iapply (op_col_load m ρ c 3 3)
  isplitl [Hc]; · iexact Hc
  iintro %_ Hc
  iapply (op_col m ρ c 3 _ rfl)
  isplitl [Hc]; · iexact Hc
  iintro Hc
  iapply (op_col_load m ρ c 4 4)
  isplitl [Hc]; · iexact Hc
  iintro %_ Hc
  iapply (op_col m ρ c 4 _ rfl)
  isplitl [Hc]; · iexact Hc
  iintro Hc
  iapply (op_col_load m ρ c 5 5)
  isplitl [Hc]; · iexact Hc
  iintro %_ Hc
  rw [Prog.pure_eq_ret, wp_ret]; imodintro
  iapply Hk; iexact Hc

end Cert.KernelIdeal.Top

end
-- ==== Proof.Ideal.Body.lean ====
/-
# The body of one device, from entry to exit

The parts in program order, and the pipeline's proof data around them.
-/
module

public import proofs.«01_k».proof.Proof.Gen.KernelIdeal.Points
public import proofs.«01_k».proof.Proof.Ideal.PartsB
public import proofs.«01_k».proof.Proof.Ideal.PartsC

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

/-! ## The pipeline's proof data -/

def Φ₀ (c : Dev nD) : sProp 𝕄 := iprop(start m ρ c ∗ ∃ f, (((c : Thread nD τ).loc cc0_scratch0) ↦{fullShare} f))
/-- At exit: the sixteen slots, and every counter at zero. -/
def Φ₁ (c : Dev nD) : sProp 𝕄 := iprop(ScrSt m ρ c ∗ (bigSep Finset.univ fun k : Fin 15 => semVal (sendCell c k) 0)
  ∗ (bigSep Finset.univ fun k : Fin 15 => semVal (recvCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => sigO c 0
    | ⟨_ + 1, _⟩ => 0

/-- Ownership of a staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

set_option maxRecDepth 8000 in
set_option maxHeartbeats 1600000 in
/-- The body from `bodyPre` to `bodyPost`. -/
theorem sound_body (c : Dev nD) (Q : PUnit → sProp 𝕄) :
    iprop(bodyPre m ρ c ∗ (bodyPost m ρ c -∗ Q ⟨⟩))
      ⊢ wp frame (wpE (defs₀ (F := F)) 𝒱₀ (c : Thread nD τ) none) Set.univ
          (cc0_body (F := F) xM (Memref.isWhole_whole _) oM (Memref.isWhole_whole _) scM (Memref.isWhole_whole _) cc0_scratch1 cc0_scratch2) Q := by
  rw [cc0_body_eq_skeleton]; unfold cc0_body_skel
  simp only [wp_bind]
  unfold bodyPre Φ₀ start ghost payToks
  iintro ⟨⟨⟨⟨⟨%K, #HR, ⟨HaB, HaS, HaV⟩, HtB, HtS, HtV⟩, HcB, HcV, #Hlev⟩, Hscr⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = sigO c 0 from rfl]
  ihave H := (begin_slots m ρ c) $$ [HO HtB Hscr]
  · isplitl [HO]; · iexists W; iexact HO
    isplitl [HtB] <;> iassumption
  icases H with ⟨H, Hr⟩
  ihave Hx := (show (((c : Thread nD τ).loc cc0_stg0_0) ↦{fullShare} (xstg m ρ c) : sProp 𝕄) ⊢ XSt m ρ c from BI.Entails.refl _) $$ Hx
  ihave Hc := (show (((c : Thread nD τ).loc cc0_stg1_0) ↦{fullShare} g1 : sProp 𝕄) ⊢ ColSt m ρ c 0 from by
    unfold ColSt; iintro H; iexists g1; isplitr; · (ipureintro; exact fun i h => absurd h (Nat.not_lt_zero _))
    iexact H) $$ Hout
  iapply (part1 m ρ K c )
  isplitr; · iexact HR
  isplitl [H]; · iexact H
  iintro %_ %_ %_ %_ H
  try dsimp only
  try simp only [wp_bind]
  iapply (part2 m ρ K c _ _ _ _)
  isplitr; · iexact HR
  isplitl [H]; · iexact H
  iintro %r H
  obtain ⟨_, _, _⟩ := r
  try dsimp only
  try simp only [wp_bind]
  iapply (part3 m ρ K c _ _ _ _)
  isplitr; · iexact HR
  isplitl [H]; · iexact H
  iintro %r H
  obtain ⟨_, _, _⟩ := r
  try dsimp only
  try simp only [wp_bind]
  iapply (part4 m ρ K c _ _ _ _)
  isplitr; · iexact HR
  isplitl [H]; · iexact H
  iintro %r H
  obtain ⟨_, _, _⟩ := r
  try dsimp only
  try simp only [wp_bind]
  iapply (part5 m ρ K c _ _ _ _)
  isplitr; · iexact HR
  isplitl [H]; · iexact H
  iintro %r H
  obtain ⟨_, _, _⟩ := r
  try dsimp only
  try simp only [wp_bind]
  iapply (part6 m ρ K c _ _ _ _)
  isplitr; · iexact HR
  isplitl [H]; · iexact H
  iintro %r H
  obtain ⟨_, _, _⟩ := r
  try dsimp only
  try simp only [wp_bind]
  iapply (part7 m ρ K c _ _ _)
  isplitr; · iexact HR
  isplitl [H]; · iexact H
  isplitr; · iexact Hlev
  isplitl [HcB]; · iexact HcB
  isplitl [HaB]; · iexact HaB
  isplitl [Hx]; · iexact Hx
  isplitl [Hr]; · iexact Hr
  iintro ⟨HO, Hp, HzB, Hx, Hr⟩
  try dsimp only
  try simp only [wp_bind]
  iapply (part8 m ρ K c )
  isplitr; · iexact HR
  isplitl [Hr]; · iexact Hr
  iintro Hr
  iapply (part9 m ρ K c _)
  isplitr; · iexact HR
  isplitl [Hr]; · iexact Hr
  isplitl [HO]; · iexact HO
  isplitl [Hp]; · iexact Hp
  isplitl [HtS]; · iexact HtS
  isplitl [HtV]; · iexact HtV
  iintro %r H
  obtain ⟨_, _, _, _, _, _⟩ := r
  try dsimp only
  try simp only [wp_bind]
  iapply (part10 m ρ K c _ _ _ _ _ _)
  isplitr; · iexact HR
  isplitl [H]; · iexact H
  iintro %r H
  obtain ⟨_, _⟩ := r
  try dsimp only
  try simp only [wp_bind]
  iapply (part11 m ρ K c _)
  isplitr; · iexact HR
  isplitl [H]; · iexact H
  iintro %r H
  obtain ⟨_, _, _, _⟩ := r
  try dsimp only
  try simp only [wp_bind]
  iapply (part12 m ρ K c _ _ _ _)
  isplitr; · iexact HR
  isplitl [H]; · iexact H
  iintro %r H
  obtain ⟨_, _⟩ := r
  try dsimp only
  try simp only [wp_bind]
  iapply (part13 m ρ K c _)
  isplitr; · iexact HR
  isplitl [H]; · iexact H
  iintro %r H
  obtain ⟨_, _⟩ := r
  try dsimp only
  try simp only [wp_bind]
  iapply (part14 m ρ K c _ _)
  isplitr; · iexact HR
  isplitl [H]; · iexact H
  iintro %r H
  obtain ⟨_, _⟩ := r
  try dsimp only
  try simp only [wp_bind]
  iapply (part15 m ρ K c _ _)
  isplitr; · iexact HR
  isplitl [H]; · iexact H
  iintro %r H
  obtain ⟨_, _⟩ := r
  try dsimp only
  try simp only [wp_bind]
  iapply (part16 m ρ K c _ _)
  isplitr; · iexact HR
  isplitl [H]; · iexact H
  iintro %r H
  obtain ⟨_, _, _, _⟩ := r
  try dsimp only
  try simp only [wp_bind]
  iapply (part17 m ρ K c _ _ _ _)
  isplitr; · iexact HR
  isplitl [H]; · iexact H
  iintro %r H
  obtain ⟨_, _, _, _⟩ := r
  try dsimp only
  try simp only [wp_bind]
  iapply (part18 m ρ K c _ _ _)
  isplitr; · iexact HR
  isplitl [H]; · iexact H
  iintro %r H
  ihave H := (begin_wait m ρ c) $$ [H HaS HcV HaV]
  · isplitl [H]; · iexact H
    isplitl [HaS]; · iexact HaS
    isplitl [HcV] <;> iassumption
  try dsimp only
  try simp only [wp_bind]
  iapply (part19 m ρ K c _ _)
  isplitr; · iexact HR
  isplitl [H]; · iexact H
  iintro %r H
  try dsimp only
  try simp only [wp_bind]
  iapply (part20 m ρ K c _ _)
  isplitr; · iexact HR
  isplitl [H]; · iexact H
  iintro %r H
  try dsimp only
  try simp only [wp_bind]
  iapply (part21 m ρ K c _ _)
  isplitr; · iexact HR
  isplitl [H]; · iexact H
  iintro %r H
  try dsimp only
  try simp only [wp_bind]
  iapply (part22 m ρ K c _ _)
  isplitr; · iexact HR
  isplitl [H]; · iexact H
  iintro %r H
  try dsimp only
  try simp only [wp_bind]
  iapply (part23 m ρ K c _ _)
  isplitr; · iexact HR
  isplitl [H]; · iexact H
  iintro %r H
  try dsimp only
  try simp only [wp_bind]
  iapply (part24 m ρ K c _)
  isplitr; · iexact HR
  isplitl [H]; · iexact H
  iintro %r H
  try dsimp only
  try simp only [wp_bind]
  iapply (part25 m ρ K c _ _)
  isplitr; · iexact HR
  isplitl [H]; · iexact H
  iintro %r H
  try dsimp only
  try simp only [wp_bind]
  iapply (part26 m ρ K c _ _)
  isplitr; · iexact HR
  isplitl [H]; · iexact H
  iintro %r H
  try dsimp only
  try simp only [wp_bind]
  iapply (part27 m ρ K c _)
  isplitr; · iexact HR
  isplitl [H]; · iexact H
  isplitl [Hc]; · iexact Hc
  iintro ⟨HO, Hs, HzS, HzV, Hc⟩
  try dsimp only
  try simp only [wp_bind]
  iapply (part28 m ρ K c )
  isplitr; · iexact HR
  isplitl [Hc]; · iexact Hc
  iintro Hc
  try dsimp only
  try simp only [wp_bind]
  iapply (op_col m ρ c 5 _ rfl)
  isplitl [Hc]; · iexact Hc
  iintro Hc
  iapply (op_col_load m ρ c 6 6)
  isplitl [Hc]; · iexact Hc
  iintro %_ Hc
  iapply (op_col m ρ c 6 _ rfl)
  isplitl [Hc]; · iexact Hc
  iintro Hc
  iapply (op_col_load m ρ c 7 7)
  isplitl [Hc]; · iexact Hc
  iintro %_ Hc
  iapply (op_col m ρ c 7 _ rfl)
  isplitl [Hc]; · iexact Hc
  iintro Hc
  rw [Prog.pure_eq_ret, wp_ret]; imodintro
  iapply Hk
  unfold bodyPost Φ₁ Dat.owesAt Pipeline.owesWithin ColSt XSt
  rw [show (dats m ρ 0 c).owed t0_0.succ = 0 from rfl]
  icases HO with ⟨%W', HO⟩
  icases Hc with ⟨%g, %hg, Hc⟩
  isplitl [Hs HzS HzV HzB]
  · isplitl [Hs]; · iexact Hs
    isplitl [HzS]; · iexact HzS
    isplitl [HzV] <;> iassumption
  isplitl [HO]
  · iexists W'
    isplitr; · ipureintro; exact fun _ _ => Or.inl trivial
    iexact HO
  isplitl [Hx]
  · iexists _; isplitr; · (ipureintro; rfl)
    iexact Hx
  iexists g; isplitr; · (ipureintro; exact cols_done m ρ c g hg)
  iexact Hc

set_option maxRecDepth 16000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (F := F) xM (Memref.isWhole_whole _) oM (Memref.isWhole_whole _) scM (Memref.isWhole_whole _) cc0_scratch1 cc0_scratch2) (fun _ => bodyPost m ρ c)
  iintro H
  iapply (sound_body m ρ c fun _ => bodyPost m ρ c)
  isplitl [H]; · iexact H
  iintro H; iexact H

end Cert.KernelIdeal.Top

end
-- ==== Proof.Ideal.Launch.lean ====
/-
# The launch: the exchange's ghost state, and the run of the whole program

The ghost state of the three kinds of cell is minted once for all devices; each device's tokens go to the devices
that pay them; the credits each device waits with are the launch's. `run_main` is the run of @main: it terminates,
and every final state has each device's arrays at the computed contents.
-/
module

public import proofs.«01_k».proof.Proof.Ideal.Body
public import Idealize.ShloMosaic.Lib.Pipeline.CollectiveSegs

@[expose] public section

noncomputable section

namespace Cert.KernelIdeal.Top

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.SparseCore.ProtocolKit

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Kd → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
/-- Every cell of the exchange, on every device. -/
def topCells : Finset (GSem nD τ sig) := Finset.univ.map ⟨kcell, kcell_injective⟩

/-- A device's own cells' duty tokens as minted: the barrier's fifteen, one per send cell, one per receive cell. -/
def tokOf (x : Dev nD × (Fin 3 × Fin 15)) : GSem nD τ sig × ℕ × Fin 15 := match x.2.1 with
  | 0 => (barCell x.1, 0, x.2.2) | 1 => (sendCell x.1 x.2.2, 0, 0) | 2 => (recvCell x.1 x.2.2, 0, 0)
/-- Which token it is, read back from it. -/
def tokKey (y : GSem nD τ sig × ℕ × Fin 15) : Dev nD × Option (Fin 3 × Fin 15) := (y.1.1.1, match kindOf y.1.2 with
  | some none => some (0, y.2.2) | some (some (false, k)) => some (1, k) | some (some (true, k)) => some (2, k) | none => none)
theorem tokKey_tokOf (x : Dev nD × (Fin 3 × Fin 15)) : tokKey (tokOf x) = (x.1, some x.2) := by
  obtain ⟨c, j, k⟩ := x
  unfold tokKey tokOf
  fin_cases j
  · simp only [kindOf_bar]; rfl
  · simp only [kindOf_send]; rfl
  · simp only [kindOf_recv]; rfl
theorem tokOf_injective : Function.Injective tokOf := fun x y h => by
  have := congrArg tokKey h
  rw [tokKey_tokOf, tokKey_tokOf] at this
  exact Prod.ext (congrArg (fun z => z.1) this) (Option.some.inj (congrArg (fun z => z.2) this))
def topToks : Finset (GSem nD τ sig × ℕ × Fin 15) := Finset.univ.map ⟨tokOf, tokOf_injective⟩

def u₀ : UU :=
  (initOf (Pipeline.cells cfgs cellOf_inj) (Pipeline.launchToks cfgs cellOf_inj), initOf topCells topToks)

/-- The duty tokens of device `c`'s own cells. -/
def toks (c : Dev nD) : sProp 𝕄 :=
  iprop((bigSep Finset.univ fun k : Fin 15 => dutyTok ER (barCell c) 0 k)
    ∗ (bigSep Finset.univ fun k : Fin 15 => dutyTok ER (sendCell c k) 0 0)
    ∗ (bigSep Finset.univ fun k : Fin 15 => dutyTok ER (recvCell c k) 0 0))

/-- What the launch element deals device `c`. -/
def G (c : Dev nD) : sProp 𝕄 :=
  iprop((bigSep Finset.univ fun k : Kd => roundState ER (topRd m ρ) (kcell (c, k)) 0)
    ∗ (bigSep Finset.univ fun k : Kd => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_pairs (Φ : Bool × Fin 15 → sProp 𝕄) :
    bigSep Finset.univ Φ = iprop((bigSep Finset.univ fun k : Fin 15 => Φ (false, k)) ∗ bigSep Finset.univ fun k : Fin 15 => Φ (true, k)) := by
  rw [bigSep_univ_prod, bigSep_univ_eq_bigSepL [false, true] (by decide) (by decide)]; rfl
/-- A family over the kinds of cell: the barrier's, the sends', the receives'. -/
theorem bigSep_kd (Φ : Kd → sProp 𝕄) :
    bigSep Finset.univ Φ = iprop(Φ none ∗ (bigSep Finset.univ fun k : Fin 15 => Φ (some (false, k))) ∗ bigSep Finset.univ fun k : Fin 15 => Φ (some (true, k))) := by
  rw [show (Finset.univ : Finset Kd) = insert none (Finset.univ.map Function.Embedding.some) from rfl,
    BI.bigSep_insert (by simp), bigSep_map, bigSep_pairs]
  rfl
theorem bigSep_three (Φ : Fin 3 × Fin 15 → sProp 𝕄) :
    bigSep Finset.univ Φ = iprop((bigSep Finset.univ fun k : Fin 15 => Φ (0, k)) ∗ (bigSep Finset.univ fun k : Fin 15 => Φ (1, k)) ∗ bigSep Finset.univ fun k : Fin 15 => Φ (2, k)) := by
  rw [bigSep_univ_prod, bigSep_univ_eq_bigSepL [0, 1, 2] (by decide) (by decide)]; rfl

theorem fund_top : BI.own (ER (initOf topCells topToks)) ⊢ (|==> bigSep Finset.univ (G m ρ) : sProp 𝕄) := by
  have hX (Φ : GSem nD τ sig → sProp 𝕄) : bigSep topCells Φ = bigSep Finset.univ fun c : Dev nD => bigSep Finset.univ fun k : Kd => Φ (kcell (c, k)) := by
    unfold topCells; rw [bigSep_map, bigSep_univ_prod]; rfl
  have hT : bigSep topToks (fun x => (dutyTok ER x.1 x.2.1 x.2.2 : sProp 𝕄)) = bigSep Finset.univ fun c : Dev nD => toks c := by
    unfold topToks; rw [bigSep_map, bigSep_univ_prod]
    exact bigSep_congr fun c _ => by unfold toks; rw [bigSep_three]; rfl
  iintro HX
  imod (Rounds.fund ER (topRd m ρ) topCells topToks) $$ HX with ⟨Hst, Hr, Hat, Htok⟩
  imodintro
  ihave Hst' := (Entails.of_eq (hX fun g => roundState ER (topRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 15 => semVal (sendCell c k) 0) ∗ bigSep Finset.univ fun k : Fin 15 => semVal (recvCell c k) 0) := by
  unfold Pipeline.ownSems0
  rw [bigSep_pairs]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_kd]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (topRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (topRd m ρ) (kcell (c, k)) 0)
      ⊢ (|={Set.univ}=> bigSep Finset.univ fun k => iprop(∃ κ : ℕ, cellInv ER (topRd m ρ) κ (kcell (c, k))) : sProp 𝕄) from by
        rw [← bigSep_sep']
        exact (bigSep_mono fun k _ => (Rounds.body_intro ER (topRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((atPos ER (barCell c) 0 ∅ 0 ∗ (bigSep Finset.univ fun k : Fin 15 => atPos ER (sendCell c k) 0 ∅ 0)
      ∗ (bigSep Finset.univ fun k : Fin 15 => atPos ER (recvCell c k) 0 ∅ 0)) ∗ payToks c)

theorem ghost_intro (K : Dev nD × Kd → ℕ) (c : Dev nD) : iprop(records m ρ K ∗ linear c) ⊢ G' m ρ c := by
  unfold linear G' ghost
  iintro ⟨#HR, Hat, Htok⟩
  iexists K
  isplitr; · iexact HR
  isplitl [Hat]; · iexact Hat
  iexact Htok

/-- Device `c` and index `k` to the device `k + 1` places on and `k`. -/
def pairE : (Dev nD × Fin 15) ≃ (Dev nD × Fin 15) :=
  ⟨fun x => (peer x.1 x.2, x.2), fun x => (peer x.1 (rev x.2), x.2), fun x => Prod.ext (peer_rev_peer x.1 x.2) rfl, fun x => Prod.ext (peer_peer_rev x.1 x.2) rfl⟩

/-- A family over devices and indices, dealt to the devices that come before. -/
theorem deal_back (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c k) k := by
  rw [← bigSep_univ_prod (fun x : Dev nD × Fin 15 => Φ x.1 x.2), bigSep_univ_equiv pairE (fun x : Dev nD × Fin 15 => Φ x.1 x.2), bigSep_univ_prod]
  exact bigSep_congr fun c _ => bigSep_congr fun k _ => rfl

/-- Every token to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_back fun c k => (dutyTok ER (barCell c) 0 k : sProp 𝕄), deal_back fun c k => (dutyTok ER (recvCell c k) 0 0 : sProp 𝕄)]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (topRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (topRd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (topRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Kd => (atPos ER (kcell (c, k)) 0 ∅ 0 : sProp 𝕄)) payToks).symm).trans
      (bigSep_mono fun c _ => show _ ⊢ linear c from Entails.of_eq (by unfold linear; rw [bigSep_kd]; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What each device owes at launch. -/
abbrev O₀ (c : Dev nD) : CellTallies nD τ sig Unit := sigO c 0

theorem bar_eq_iff {a b : Dev nD} : Iff (barCell a = barCell b) (a = b) :=
  ⟨fun h => by have := congrArg (fun g : GSem nD τ sig => g.1.1) h; exact this, fun h => h ▸ rfl⟩
theorem recv_ne_bar (k : Fin 15) : (SemLoc.dma (recvS k) : SemLoc sig) ≠ .reg barS := fun h => by cases h
theorem recv_eq_iff {a b : Dev nD} {k l : Fin 15} : Iff (recvCell a k = recvCell b l) (a = b ∧ k = l) :=
  ⟨fun h => ⟨by have := congrArg (fun g : GSem nD τ sig => g.1.1) h; exact this, by
    have h2 : kindOf (.dma (recvS k)) = kindOf (.dma (recvS l)) := congrArg kindOf (congrArg Prod.snd h)
    rw [kindOf_recv, kindOf_recv] at h2
    exact congrArg Prod.snd (Option.some.inj (Option.some.inj h2))⟩, fun h => by rw [h.1, h.2]⟩

/-- What device `d` owes device `c`'s barrier cell: one unit for each of its signals that goes there. -/
theorem owed_bar (d c : Dev nD) : O₀ d (barCell c) () = ∑ k : Fin 15, if c = peer d k then 1 else 0 := by
  unfold O₀ sigO sndO
  rw [Pi.add_apply, Finsupp.add_apply, finFrom_zero, Finset.sum_apply, Finsupp.finset_sum_apply, Finset.sum_apply, Finsupp.finset_sum_apply,
    Finset.sum_eq_zero (fun k _ => by rw [tallyAt_ne_cell (fun h => recv_ne_bar k (congrArg Prod.snd h).symm)]; rfl), Nat.zero_add]
  refine Finset.sum_congr rfl fun k _ => ?_
  rw [tallyAt_apply]
  by_cases h : c = peer d k
  · rw [if_pos ⟨congrArg barCell h, rfl⟩, if_pos h]
  · rw [if_neg (fun h' => h (bar_eq_iff.mp h'.1)), if_neg h]

theorem owed_recv (d c : Dev nD) (k : Fin 15) : O₀ d (recvCell c k) () = if d = peer c (rev k) then N else 0 := by
  unfold O₀ sigO sndO
  rw [Pi.add_apply, Finsupp.add_apply, finFrom_zero, Finset.sum_apply, Finsupp.finset_sum_apply, Finset.sum_apply, Finsupp.finset_sum_apply,
    Finset.sum_eq_zero (s := Finset.univ) (f := fun l : Fin 15 => tallyAt (barCell (peer d l)) () 1 (recvCell c k) ())
      (fun l _ => by rw [tallyAt_ne_cell (fun h => recv_ne_bar k (congrArg Prod.snd h))]; rfl), Nat.add_zero,
    Finset.sum_eq_single k (fun l _ hl => by rw [tallyAt_apply, if_neg (fun h' => hl (recv_eq_iff.mp h'.1).2.symm)]) (fun h => absurd (Finset.mem_univ k) h),
    tallyAt_apply]
  by_cases h : d = peer c (rev k)
  · rw [if_pos h, if_pos ⟨recv_eq_iff.mpr ⟨by rw [h, peer_peer_rev], rfl⟩, rfl⟩]
  · rw [if_neg h, if_neg (fun h' => h (by rw [(recv_eq_iff.mp h'.1).1, peer_rev_peer]))]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer c (rev k)) fun _ => N,
    if_pos (Finset.mem_univ _)]

/-- The receive semaphores as an embedding of their indices. -/
def recvEmb : Fin 15 ↪ SemLoc sig := ⟨fun k => .dma (recvS k), fun k l h => by
  have h2 : kindOf (.dma (recvS k)) = kindOf (.dma (recvS l)) := congrArg kindOf h
  rw [kindOf_recv, kindOf_recv] at h2
  exact congrArg Prod.snd (Option.some.inj (Option.some.inj h2))⟩

theorem creds (c : Dev nD) :
    (Pipeline.launchCred O₀ c : sProp 𝕄) ⊢ iprop(cred (tallyAt (barCell c) () 15) ∗ bigSep Finset.univ fun k : Fin 15 => cred (tallyAt (recvCell c k) () N)) := by
  unfold Pipeline.launchCred
  rw [bigSep_univ_at _ (SemLoc.reg barS), launch_bar]
  refine sep_mono_right ?_
  refine (BI.bigSep_subset (t := Finset.univ.map recvEmb) fun x hx => ?_).trans ?_
  · obtain ⟨k, -, rfl⟩ := Finset.mem_map.mp hx
    exact Finset.mem_erase.mpr ⟨recv_ne_bar k, Finset.mem_univ _⟩
  · rw [bigSep_map]
    exact Entails.of_eq (bigSep_congr fun k _ => congrArg cred (launch_recv c k))

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ ScrSt
  iintro ⟨Hr, HzS, HzV, HzB⟩
  isplitl [HzB]; · iexact HzB
  isplitl [HzS HzV]
  · isplitl [HzS] <;> iassumption
  iexists (cand m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

/-- What device `c`'s array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every counter zero: every weakly fair execution of @main on the sixteen
    devices terminates, and every final state has each device's result at the computed contents, its `x` unchanged and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_top m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block is the whole array: read back, it is what the body left in the staging buffer. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The frame: @main terminates, leaves every device's `x` as it was, and every counter at zero. -/
theorem frame_main : θ_run defs (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c (0 : Fin 2)).trans (finalA_x m ρ c), h.2⟩) (run_main m ρ)

/-- The value: every device's result ends at `outAt`. -/
theorem value_main : θ_run defs (onTc (τ := τ) (main (F := F))) ⟨m, fun _ => 0, ρ⟩
    (fun r => ∀ c : Dev nD, r.2.mem ((c : Thread nD τ).loc main_v1) = outAt m ρ c
      ∧ r.2.mem ((c : Thread nD τ).loc main_arg0) = m ((c : Thread nD τ).loc main_arg0)) :=
  (θ_run defs _ _).mono (fun _ h c => ⟨(h.1 c (1 : Fin 2)).trans (by
      have ho := finalA_o m ρ c
      rw [show View.read (Elt F) (win0_1.blk (0 : Fin 1)).view (finalA m ρ c (1 : Fin 2)) = finalA m ρ c (1 : Fin 2) from
        Memref.read_access_unit_zero (Elt F) main_v1 (funext fun a => by fin_cases a <;> decide) (fun a => by fin_cases a <;> decide) _] at ho
      exact ho), (h.1 c (0 : Fin 2)).trans (finalA_x m ρ c)⟩) (run_main m ρ)

end Cert.KernelIdeal.Top

end
-- ==== Proof.Claims.lean ====
/-
# The claims other than the values

The frames of the kernel and of its idealization are the runs of Plain/Launch.lean and Ideal/Launch.lean; those of the
one-device programs are their straight-line runs, which use no semaphore. The idealization names one constant.
-/
module

public import proofs.«01_k».proof.Defs
public import proofs.«01_k».proof.Proof.Plain.Launch
public import proofs.«01_k».proof.Proof.Ideal.Launch
public import proofs.«01_k».proof.Proof.Gen.DistinctIdeal.Run
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.DistinctIdeal.Gen.facts Cert.ReferenceIdeal.Gen.facts

/-- The kernel terminates, leaves every device's `x` as it was and every semaphore counter at zero. -/
theorem frame_kernel : Cert.quiescent_Kernel := fun m ρ _ => Cert.Kernel.Top.frame_main (F := Bits) m ρ

/-- The same of its idealization. -/
theorem frame_kernelIdeal : Cert.quiescent_KernelIdeal := fun m ρ _ => Cert.KernelIdeal.Top.frame_main (F := Ideal) m ρ

/-- The one-device program that counts equal values once terminates and leaves its argument as it was. -/
theorem frame_distinct : Cert.quiescent_DistinctIdeal := fun m ρ _ =>
  (θ_run Cert.DistinctIdeal.defs _ _).mono (fun r h => ⟨fun c => (h c).2, sem_eq_zero_of_no_sems (by decide) r.2⟩)
    (Cert.DistinctIdeal.Value.run (F := Ideal) m ρ)

/-- The reference terminates and leaves its argument as it was. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant of the idealization is minus infinity. -/
theorem preserves_mask : Cert.preserves_Kernel_KernelIdeal :=
  IdealRules.named_const.statement Cert.KernelIdeal.κ "mask" .f32 0xF149F2CA#32 ⊥ rfl

end Cert.Proof

end
-- ==== Proof.Value.Top.lean ====
/-
# The largest distinct values of a set

`top s n` is the `n`-th largest distinct element of a set of extended reals, counting from 0, and minus infinity once they
are used up. Masking the maximum out, over and over, computes it (`rest`); and the largest of a union are the largest of
the largest of its parts (`top_merge`).
-/
module

public import Mathlib.Data.EReal.Basic
public import Mathlib.Order.ConditionallyCompleteLattice.Finset

@[expose] public section

noncomputable section

namespace Cert.TopValue

/-- The `n`-th largest distinct element of `s`. -/
def top (s : Set EReal) : ℕ → EReal
  | 0 => sSup s
  | n + 1 => sSup {x | x ∈ s ∧ x < top s n}

theorem top_succ_le (s : Set EReal) (n : ℕ) : top s (n + 1) ≤ top s n := sSup_le fun _ hx => hx.2.le
theorem top_anti (s : Set EReal) {m n : ℕ} (h : m ≤ n) : top s n ≤ top s m := antitone_nat_of_succ_le (top_succ_le s) h

/-- A smaller set has smaller ones. -/
theorem top_mono {b s : Set EReal} (h : b ⊆ s) (n : ℕ) : top b n ≤ top s n := by
  induction n with
  | zero => exact sSup_le_sSup h
  | succ n ih => exact sSup_le fun x hx => le_sSup ⟨h hx.1, hx.2.trans_le ih⟩

/-- An element is one of the first `n + 1`, or below them. -/
theorem lt_or_eq {s : Set EReal} {x : EReal} (hx : x ∈ s) (n : ℕ) : x < top s n ∨ ∃ k ≤ n, x = top s k := by
  induction n with
  | zero => exact (le_sSup hx).lt_or_eq.imp id fun h => ⟨0, le_rfl, h⟩
  | succ n ih =>
    rcases ih with h | ⟨k, hk, h⟩
    · exact (show x ≤ top s (n + 1) from le_sSup ⟨hx, h⟩).lt_or_eq.imp id fun h => ⟨n + 1, le_rfl, h⟩
    · exact Or.inr ⟨k, hk.trans (Nat.le_succ n), h⟩

theorem sSup_mem_or {s : Set EReal} (hs : s.Finite) : sSup s = ⊥ ∨ sSup s ∈ s := by
  rcases s.eq_empty_or_nonempty with rfl | h
  · exact Or.inl sSup_empty
  · exact Or.inr (h.csSup_mem hs)
theorem top_mem {s : Set EReal} (hs : s.Finite) (n : ℕ) : top s n = ⊥ ∨ top s n ∈ s := by
  cases n with
  | zero => exact sSup_mem_or hs
  | succ n => exact (sSup_mem_or (hs.subset fun _ hx => hx.1)).imp id And.left
theorem top_succ_lt {s : Set EReal} (hs : s.Finite) (n : ℕ) : top s (n + 1) = ⊥ ∨ (top s (n + 1) ∈ s ∧ top s (n + 1) < top s n) :=
  sSup_mem_or (s := {x | x ∈ s ∧ x < top s n}) (hs.subset fun _ hx => hx.1)

/-- A set `C` that has, of `s`, every element not below the first `n + 1`, and nothing else but minus infinity, has the
    same first `n + 1`. -/
theorem top_of_rep {s C : Set EReal} (hs : s.Finite) {n : ℕ} (hC : ∀ c ∈ C, c = ⊥ ∨ c ∈ s)
    (hS : ∀ x ∈ s, x ∈ C ∨ x < top s n) : ∀ j ≤ n, top C j = top s j := by
  intro j
  induction j with
  | zero =>
    intro _
    refine le_antisymm (sSup_le fun c hc => ?_) ?_
    · rcases hC c hc with rfl | h
      · exact bot_le
      · exact le_sSup h
    · rcases top_mem hs 0 with h | h
      · rw [h]; exact bot_le
      · rcases hS _ h with h' | h'
        · exact le_sSup h'
        · exact absurd h' (not_lt.mpr (top_anti s (Nat.zero_le n)))
  | succ j ih =>
    intro hj
    have ih := ih ((Nat.le_succ j).trans hj)
    refine le_antisymm (sSup_le fun c hc => ?_) ?_
    · rcases hC c hc.1 with rfl | h
      · exact bot_le
      · exact le_sSup ⟨h, ih ▸ hc.2⟩
    · rcases top_succ_lt hs j with h | ⟨h, hlt⟩
      · rw [h]; exact bot_le
      · rcases hS _ h with h' | h'
        · exact le_sSup ⟨h', ih.symm ▸ hlt⟩
        · exact absurd h' (not_lt.mpr (top_anti s hj))

/-- The first of a union are the first of the first of its parts. -/
theorem top_merge {ι : Type} (b : ι → Set EReal) {s : Set EReal} (hs : s.Finite) (hb : s = ⋃ i, b i) {N : ℕ}
    (C : Set EReal) (hC : ∀ c, Iff (c ∈ C) (∃ i, ∃ k, k < N + 1 ∧ c = top (b i) k)) (j : ℕ) (hj : j < N + 1) : top C j = top s j := by
  have hsub : ∀ i, b i ⊆ s := fun i => hb ▸ Set.subset_iUnion b i
  refine top_of_rep (n := N) hs (fun c hc => ?_) (fun x hx => ?_) j (Nat.le_of_lt_succ hj)
  · obtain ⟨i, k, -, rfl⟩ := (hC c).mp hc
    exact (top_mem (hs.subset (hsub i)) k).imp id fun h => hsub i h
  · obtain ⟨i, hi⟩ := Set.mem_iUnion.mp (hb ▸ hx)
    rcases lt_or_eq hi N with h | ⟨k, hk, h⟩
    · exact Or.inr (h.trans_le (top_mono (hsub i) N))
    · exact Or.inl ((hC x).mpr ⟨i, k, Nat.lt_succ_of_le hk, h⟩)

variable {ι : Type}

/-- What is left of a family once its first `n` values are masked out. -/
def rest (f : ι → EReal) : ℕ → ι → EReal
  | 0 => f
  | n + 1 => fun i => if f i < top (Set.range f) n then f i else ⊥

/-- Its supremum is the next value. -/
theorem iSup_rest (f : ι → EReal) (n : ℕ) : (⨆ i, rest f n i) = top (Set.range f) n := by
  cases n with
  | zero => rfl
  | succ n =>
    refine le_antisymm (iSup_le fun i => ?_) (sSup_le ?_)
    · show (if f i < top (Set.range f) n then f i else ⊥) ≤ _
      split
      · next h => exact le_sSup ⟨⟨i, rfl⟩, h⟩
      · exact bot_le
    · rintro x ⟨⟨i, rfl⟩, h⟩
      exact le_iSup_of_le i (by show _ ≤ (if f i < top (Set.range f) n then f i else ⊥); rw [if_pos h])

/-- Masking that value leaves the next rest. -/
theorem mask_rest (f : ι → EReal) (n : ℕ) (i : ι) :
    (if rest f n i = top (Set.range f) n then ⊥ else rest f n i) = rest f (n + 1) i := by
  have hle : rest f n i ≤ top (Set.range f) n := (le_iSup (rest f n) i).trans_eq (iSup_rest f n)
  show _ = (if f i < top (Set.range f) n then f i else ⊥)
  cases n with
  | zero =>
    show (if f i = _ then ⊥ else f i) = _
    rcases (show f i ≤ top (Set.range f) 0 from hle).lt_or_eq with h | h
    · rw [if_neg (ne_of_lt h), if_pos h]
    · rw [if_pos h, if_neg (not_lt.mpr (ge_of_eq h))]
  | succ n =>
    have hr : rest f (n + 1) i = if f i < top (Set.range f) n then f i else ⊥ := rfl
    by_cases hi : f i < top (Set.range f) n
    · rw [if_pos hi] at hr
      rw [hr] at hle ⊢
      rcases hle.lt_or_eq with h | h
      · rw [if_neg (ne_of_lt h), if_pos h]
      · rw [if_pos h, if_neg (not_lt.mpr (ge_of_eq h))]
    · rw [if_neg hi] at hr
      rw [hr, ite_self, if_neg (fun h => hi (h.trans_le (top_succ_le _ n)))]

end Cert.TopValue

end
-- ==== Proof.Value.Rows.lean ====
/-
# The kernel's payloads as largest distinct values

At the extended reals: the `j`-th candidate row that the body stores is the `j`-th largest distinct value of each row of
its block, and the `j`-th column of the result is the `j`-th largest distinct value of the 128 candidates of each row.
-/
module

public import proofs.«01_k».proof.Proof.Value.Top
public import proofs.«01_k».proof.Proof.Ideal.Geom
public import Idealize.ShloMosaic.PureOps.Ideal.Laws
public import Idealize.ShloMosaic.PureOps.IdealRules
public import Idealize.ShloMosaic.Lib.ValueIdx
public import Idealize.ShloMosaic.Lib.ValueLayoutCasts

@[expose] public section

noncomputable section

namespace Cert.KernelIdeal.Rows

open Cert.KernelIdeal Cert.KernelIdeal.Gen Cert.KernelIdeal.Top Cert.TopValue
open Idealize.ShloMosaic Idealize.ShloMosaic.ValueIdx

/-- The word of minus infinity denotes it. -/
theorem ofBits_negInf : (FloatOps.ofBits (F := Ideal) .f32 0xFF800000#32 : EReal) = ⊥ := by
  show Ideal.ofBits .f32 0xFF800000#32 = ⊥
  simp [Ideal.ofBits, Ideal.ieee]

theorem fold_max {n : ℕ} (f : Fin n → EReal) : (Finset.univ : Finset (Fin n)).fold max (FloatOps.ofBits (F := Ideal) .f32 0xFF800000#32 : EReal) f = ⨆ k, f k := by
  rw [ofBits_negInf]; exact Finset.sup_univ_eq_iSup f

theorem mask_eq : (Named.named (F := Ideal) κ "mask" (φ := .f32) 0xF149F2CA#32 : EReal) = ⊥ :=
  IdealRules.named_const.ideal_named_scalar κ "mask" _ ⊥ rfl

/-- The kernel's select on equality, at one entry. -/
theorem select_oeq (a b c d : EReal) : Scalar.select (FloatOps.cmpf (F := Ideal) (φ := .f32) .oeq a b) c d = if a = b then c else d := by
  show Scalar.select (BitVec.ofBool (decide (a = b))) c d = _
  by_cases h : a = b
  · rw [if_pos h, decide_eq_true h]; rfl
  · rw [if_neg h, decide_eq_false h]; rfl

/-! ### Along the rows of a block -/

section Block

variable (x : FVec Ideal S256x1024 .f32)

/-- Row `r` of a block. -/
def row (r : Fin 256) : Fin 1024 → EReal := fun k => x (ix2 r k)

/-- `v` is what is left of the block `x` once the first `n` values of each row are masked out. -/
structure IsRest (n : ℕ) (v : FVec Ideal S256x1024 .f32) : Prop where
  apply : ∀ r k, (v (ix2 r k) : EReal) = rest (row x r) n k
/-- `M` has the `n`-th value of each row. -/
structure IsTop (n : ℕ) (M : FVec Ideal S256 .f32) : Prop where
  apply : ∀ r : Fin 256, (M (ix1 r) : EReal) = top (Set.range (row x r)) n

variable {x}

/-- The maximum along the rows. -/
theorem rest_max {n : ℕ} {v : FVec Ideal S256x1024 .f32} (h : IsRest x n v) :
    IsTop x n (multiReduction .maximumf [1] S256 v 0xFF800000#32 reduces_S256x1024_S256 (.inl rfl) rfl) := by
  refine ⟨fun r => ?_⟩
  rw [Ideal.multiReduction_maximumf_single v 0xFF800000#32 reduces_S256x1024_S256 (.inl rfl) rfl (ix1 r)]
  refine (fold_max _).trans ?_
  rw [← iSup_rest]
  refine iSup_congr fun k => ?_
  rw [← h.apply r k]
  exact congrArg v (funext fun b => match b with | ⟨0, _⟩ => rfl | ⟨1, _⟩ => rfl)

/-- The mask along the rows. -/
theorem rest_mask {n : ℕ} {v : FVec Ideal S256x1024 .f32} {M : FVec Ideal S256 .f32} (h : IsRest x n v) (hM : IsTop x n M) :
    IsRest x (n + 1) (select (cmpf .oeq v (broadcastTo S256x1024 (shapeCast S256x1 M shapeCasts_S256_S256x1) broadcasts_S256x1_S256x1024))
      (broadcast S256x1024 (Named.named κ "mask" 0xF149F2CA#32)) v) := by
  refine ⟨fun r k => ?_⟩
  have hb : (broadcastTo S256x1024 (shapeCast S256x1 M shapeCasts_S256_S256x1) broadcasts_S256x1_S256x1024 (ix2 r k) : EReal)
      = top (Set.range (row x r)) n :=
    (congrArg (shapeCast S256x1 M shapeCasts_S256_S256x1) (funext fun b => match b with | ⟨0, _⟩ => rfl | ⟨1, _⟩ => rfl)).trans
      ((shapeCast_a_a1_apply M shapeCasts_S256_S256x1 r (0 : Fin 1)).trans (hM.apply r))
  rw [select_apply, cmpf_apply, broadcast_apply, ← mask_rest, ← h.apply r k]
  exact (select_oeq _ _ _ _).trans (by rw [hb, mask_eq])

theorem isRest_0 : IsRest x 0 (k0_pay5 x) := ⟨fun r k => congrArg (fun f => f (ix2 r k)) (shapeCast_self x shapeCasts_S256x1024_S256x1024)⟩

theorem isTop_0 : IsTop x 0 (k0_pay6 x) := by
  unfold k0_pay6
  exact rest_max isRest_0
theorem isRest_1 : IsRest x 1 (k0_pay8 x) := by
  unfold k0_pay8
  exact rest_mask isRest_0 isTop_0
theorem isTop_1 : IsTop x 1 (k0_pay9 x) := by
  unfold k0_pay9
  exact rest_max isRest_1
theorem isRest_2 : IsRest x 2 (k0_pay11 x) := by
  unfold k0_pay11
  exact rest_mask isRest_1 isTop_1
theorem isTop_2 : IsTop x 2 (k0_pay12 x) := by
  unfold k0_pay12
  exact rest_max isRest_2
theorem isRest_3 : IsRest x 3 (k0_pay14 x) := by
  unfold k0_pay14
  exact rest_mask isRest_2 isTop_2
theorem isTop_3 : IsTop x 3 (k0_pay15 (k0_pay14 x)) := by
  unfold k0_pay15
  exact rest_max isRest_3
theorem isRest_4 : IsRest x 4 (k0_pay17 (k0_pay14 x)) := by
  unfold k0_pay17
  exact rest_mask isRest_3 isTop_3
theorem isTop_4 : IsTop x 4 (k0_pay18 (k0_pay14 x)) := by
  unfold k0_pay18
  exact rest_max isRest_4
theorem isRest_5 : IsRest x 5 (k0_pay20 (k0_pay14 x)) := by
  unfold k0_pay20
  exact rest_mask isRest_4 isTop_4
theorem isTop_5 : IsTop x 5 (k0_pay21 (k0_pay14 x)) := by
  unfold k0_pay21
  exact rest_max isRest_5
theorem isRest_6 : IsRest x 6 (k0_pay23 (k0_pay14 x)) := by
  unfold k0_pay23
  exact rest_mask isRest_5 isTop_5
theorem isTop_6 : IsTop x 6 (k0_pay24 (k0_pay14 x)) := by
  unfold k0_pay24
  exact rest_max isRest_6
theorem isRest_7 : IsRest x 7 (k0_pay26 (k0_pay14 x)) := by
  unfold k0_pay26
  exact rest_mask isRest_6 isTop_6

theorem cast_row (M : FVec Ideal S256 .f32) (u w : Fin 1) (r : Fin 256) :
    shapeCast S1x1x256 M shapeCasts_S256_S1x1x256 (ix3 u w r) = M (ix1 r) :=
  shapeCast_apply M _ _ _ (by
    have hu : u.val = 0 := by omega
    have hw : w.val = 0 := by omega
    rw [Shape.rowMajor_val_three, Shape.rowMajor_val_one]
    show r.val = (u.val * 1 + w.val) * 256 + r.val
    omega)

/-- The `j`-th candidate row is the `j`-th largest distinct value of each row. -/
theorem rowPay_apply (x : FVec Ideal S256x1024 .f32) (j : Fin 8) (u w : Fin 1) (r : Fin 256) :
    (rowPay (F := Ideal) x j (ix3 u w r) : EReal) = top (Set.range (row x r)) j := by
  match j with
  | 0 =>
    change (k0_pay7 (F := Ideal) x (ix3 u w r) : EReal) = top (Set.range (row x r)) 0
    unfold k0_pay7
    exact (cast_row _ u w r).trans (isTop_0.apply r)
  | 1 =>
    change (k0_pay10 (F := Ideal) x (ix3 u w r) : EReal) = top (Set.range (row x r)) 1
    unfold k0_pay10
    exact (cast_row _ u w r).trans (isTop_1.apply r)
  | 2 =>
    change (k0_pay13 (F := Ideal) x (ix3 u w r) : EReal) = top (Set.range (row x r)) 2
    unfold k0_pay13
    exact (cast_row _ u w r).trans (isTop_2.apply r)
  | 3 =>
    change (k0_pay16 (F := Ideal) (k0_pay14 x) (ix3 u w r) : EReal) = top (Set.range (row x r)) 3
    unfold k0_pay16
    exact (cast_row _ u w r).trans (isTop_3.apply r)
  | 4 =>
    change (k0_pay19 (F := Ideal) (k0_pay14 x) (ix3 u w r) : EReal) = top (Set.range (row x r)) 4
    unfold k0_pay19
    exact (cast_row _ u w r).trans (isTop_4.apply r)
  | 5 =>
    change (k0_pay22 (F := Ideal) (k0_pay14 x) (ix3 u w r) : EReal) = top (Set.range (row x r)) 5
    unfold k0_pay22
    exact (cast_row _ u w r).trans (isTop_5.apply r)
  | 6 =>
    change (k0_pay25 (F := Ideal) (k0_pay14 x) (ix3 u w r) : EReal) = top (Set.range (row x r)) 6
    unfold k0_pay25
    exact (cast_row _ u w r).trans (isTop_6.apply r)
  | 7 =>
    change (k0_pay27 (F := Ideal) (k0_pay26 (k0_pay14 x)) (ix3 u w r) : EReal) = top (Set.range (row x r)) 7
    unfold k0_pay27
    exact (cast_row _ u w r).trans ((rest_max isRest_7).apply r)

end Block

/-! ### Down the columns of the candidates -/

section Merge

variable (x : FVec Ideal S16x8x256 .f32)

/-- The 128 candidates of row `r`. -/
def col (r : Fin 256) : Fin 128 → EReal := fun k => k0_pay28 (F := Ideal) x (ix2 k r)

/-- Candidate `k` is the `k % 8`-th of slot `k / 8`. -/
theorem col_apply (r : Fin 256) (k : Fin 128) :
    col x r k = x (ix3 (⟨k.val / 8, by omega⟩ : Fin 16) (⟨k.val % 8, by omega⟩ : Fin 8) r) :=
  shapeCast_apply x shapeCasts_S16x8x256_S128x256 _ _ (by
    rw [Shape.rowMajor_val_three, Shape.rowMajor_val_two]
    show (k.val / 8 * 8 + k.val % 8) * 256 + r.val = k.val * 256 + r.val
    omega)

/-- `v` is what is left of the candidates once the first `n` values of each row are masked out. -/
structure IsRest' (n : ℕ) (v : FVec Ideal S128x256 .f32) : Prop where
  apply : ∀ r k, (v (ix2 k r) : EReal) = rest (col x r) n k
/-- `M` has the `n`-th value of each row's candidates. -/
structure IsTop' (n : ℕ) (M : FVec Ideal S256 .f32) : Prop where
  apply : ∀ r : Fin 256, (M (ix1 r) : EReal) = top (Set.range (col x r)) n

variable {x}

/-- The maximum over the candidates. -/
theorem rest_max' {n : ℕ} {v : FVec Ideal S128x256 .f32} (h : IsRest' x n v) :
    IsTop' x n (multiReduction .maximumf [0] S256 v 0xFF800000#32 reduces_S128x256_S256 (.inl rfl) rfl) := by
  refine ⟨fun r => ?_⟩
  rw [Ideal.multiReduction_maximumf_single v 0xFF800000#32 reduces_S128x256_S256 (.inl rfl) rfl (ix1 r)]
  refine (fold_max _).trans ?_
  rw [← iSup_rest]
  refine iSup_congr fun k => ?_
  rw [← h.apply r k]
  exact congrArg v (funext fun b => match b with | ⟨0, _⟩ => rfl | ⟨1, _⟩ => rfl)

/-- The mask over the candidates. -/
theorem rest_mask' {n : ℕ} {v : FVec Ideal S128x256 .f32} {M : FVec Ideal S256 .f32} (h : IsRest' x n v) (hM : IsTop' x n M) :
    IsRest' x (n + 1) (select (cmpf .oeq v (broadcastTo S128x256 (shapeCast S1x256 M shapeCasts_S256_S1x256) broadcasts_S1x256_S128x256))
      (broadcast S128x256 (Named.named κ "mask" 0xF149F2CA#32)) v) := by
  refine ⟨fun r k => ?_⟩
  have hb : (broadcastTo S128x256 (shapeCast S1x256 M shapeCasts_S256_S1x256) broadcasts_S1x256_S128x256 (ix2 k r) : EReal)
      = top (Set.range (col x r)) n :=
    (congrArg (shapeCast S1x256 M shapeCasts_S256_S1x256) (funext fun b => match b with | ⟨0, _⟩ => rfl | ⟨1, _⟩ => rfl)).trans
      ((shapeCast_a_1a_apply M shapeCasts_S256_S1x256 (0 : Fin 1) r).trans (hM.apply r))
  rw [select_apply, cmpf_apply, broadcast_apply, ← mask_rest, ← h.apply r k]
  exact (select_oeq _ _ _ _).trans (by rw [hb, mask_eq])

theorem isRest'_0 : IsRest' x 0 (k0_pay28 x) := ⟨fun _ _ => rfl⟩
theorem isTop'_0 : IsTop' x 0 (k0_pay29 x) := by
  unfold k0_pay29
  exact rest_max' isRest'_0
theorem isRest'_1 : IsRest' x 1 (k0_pay31 x) := by
  unfold k0_pay31
  exact rest_mask' isRest'_0 isTop'_0
theorem isTop'_1 : IsTop' x 1 (k0_pay32 x) := by
  unfold k0_pay32
  exact rest_max' isRest'_1
theorem isRest'_2 : IsRest' x 2 (k0_pay34 (k0_pay31 x) (k0_pay32 x)) := by
  unfold k0_pay34
  exact rest_mask' isRest'_1 isTop'_1
theorem isTop'_2 : IsTop' x 2 (k0_pay35 (k0_pay31 x) (k0_pay32 x)) := by
  unfold k0_pay35
  exact rest_max' isRest'_2
theorem isRest'_3 : IsRest' x 3 (k0_pay37 (k0_pay31 x) (k0_pay32 x)) := by
  unfold k0_pay37
  exact rest_mask' isRest'_2 isTop'_2
theorem isTop'_3 : IsTop' x 3 (k0_pay38 (k0_pay31 x) (k0_pay32 x)) := by
  unfold k0_pay38
  exact rest_max' isRest'_3
theorem isRest'_4 : IsRest' x 4 (k0_pay40 (k0_pay31 x) (k0_pay32 x)) := by
  unfold k0_pay40
  exact rest_mask' isRest'_3 isTop'_3
theorem isTop'_4 : IsTop' x 4 (k0_pay41 (k0_pay31 x) (k0_pay32 x)) := by
  unfold k0_pay41
  exact rest_max' isRest'_4
theorem isRest'_5 : IsRest' x 5 (k0_pay43 (k0_pay31 x) (k0_pay32 x)) := by
  unfold k0_pay43
  exact rest_mask' isRest'_4 isTop'_4
theorem isTop'_5 : IsTop' x 5 (k0_pay44 (k0_pay31 x) (k0_pay32 x)) := by
  unfold k0_pay44
  exact rest_max' isRest'_5
theorem isRest'_6 : IsRest' x 6 (k0_pay1 (k0_pay43 (k0_pay31 x) (k0_pay32 x)) (k0_pay44 (k0_pay31 x) (k0_pay32 x))) := by
  unfold k0_pay1
  exact rest_mask' isRest'_5 isTop'_5
theorem isTop'_6 : IsTop' x 6 (k0_pay2 (k0_pay43 (k0_pay31 x) (k0_pay32 x)) (k0_pay44 (k0_pay31 x) (k0_pay32 x))) := by
  unfold k0_pay2
  exact rest_max' isRest'_6

/-- The `j`-th column of the result is the `j`-th largest distinct value of each row's candidates. -/
theorem colPay_apply (x : FVec Ideal S16x8x256 .f32) (j : Fin 8) (r : Fin 256) (u : Fin 1) :
    (colPay (F := Ideal) x j (ix2 r u) : EReal) = top (Set.range (col x r)) j := by
  match j with
  | 0 =>
    change (k0_pay30 (F := Ideal) x (ix2 r u) : EReal) = top (Set.range (col x r)) 0
    unfold k0_pay30
    exact (shapeCast_a_a1_apply _ shapeCasts_S256_S256x1 r u).trans (isTop'_0.apply r)
  | 1 =>
    change (k0_pay33 (F := Ideal) (k0_pay32 x) (ix2 r u) : EReal) = top (Set.range (col x r)) 1
    unfold k0_pay33
    exact (shapeCast_a_a1_apply _ shapeCasts_S256_S256x1 r u).trans (isTop'_1.apply r)
  | 2 =>
    change (k0_pay36 (F := Ideal) (k0_pay31 x) (k0_pay32 x) (ix2 r u) : EReal) = top (Set.range (col x r)) 2
    unfold k0_pay36
    exact (shapeCast_a_a1_apply _ shapeCasts_S256_S256x1 r u).trans (isTop'_2.apply r)
  | 3 =>
    change (k0_pay39 (F := Ideal) (k0_pay31 x) (k0_pay32 x) (ix2 r u) : EReal) = top (Set.range (col x r)) 3
    unfold k0_pay39
    exact (shapeCast_a_a1_apply _ shapeCasts_S256_S256x1 r u).trans (isTop'_3.apply r)
  | 4 =>
    change (k0_pay42 (F := Ideal) (k0_pay31 x) (k0_pay32 x) (ix2 r u) : EReal) = top (Set.range (col x r)) 4
    unfold k0_pay42
    exact (shapeCast_a_a1_apply _ shapeCasts_S256_S256x1 r u).trans (isTop'_4.apply r)
  | 5 =>
    change (k0_pay45 (F := Ideal) (k0_pay31 x) (k0_pay32 x) (ix2 r u) : EReal) = top (Set.range (col x r)) 5
    unfold k0_pay45
    exact (shapeCast_a_a1_apply _ shapeCasts_S256_S256x1 r u).trans (isTop'_5.apply r)
  | 6 =>
    change (k0_pay3 (F := Ideal) (k0_pay43 (k0_pay31 x) (k0_pay32 x)) (k0_pay44 (k0_pay31 x) (k0_pay32 x)) (ix2 r u) : EReal) = top (Set.range (col x r)) 6
    unfold k0_pay3
    exact (shapeCast_a_a1_apply _ shapeCasts_S256_S256x1 r u).trans (isTop'_6.apply r)
  | 7 =>
    change (k0_pay4 (F := Ideal) (k0_pay43 (k0_pay31 x) (k0_pay32 x)) (k0_pay44 (k0_pay31 x) (k0_pay32 x)) (ix2 r u) : EReal) = top (Set.range (col x r)) 7
    unfold k0_pay4
    exact (shapeCast_a_a1_apply _ shapeCasts_S256_S256x1 r u).trans ((rest_max' (rest_mask' isRest'_6 isTop'_6)).apply r)

end Merge

end Cert.KernelIdeal.Rows

end
-- ==== Proof.Value.Distinct.lean ====
/-
# The one-device program's columns

At the extended reals, column `j` of the program that counts equal values once is the `j`-th largest distinct value of each
row of the whole array.
-/
module

public import proofs.«01_k».proof.Proof.Value.Top
public import proofs.«01_k».proof.Proof.Gen.DistinctIdeal.Run
public import Idealize.ShloMosaic.PureOps.Ideal.Laws
public import Idealize.ShloMosaic.Lib.KernelVsHost
public import Idealize.ShloMosaic.Lib.ValueIdx

@[expose] public section

noncomputable section

namespace Cert.DistinctIdeal.Cols

open Cert.DistinctIdeal Cert.DistinctIdeal.Gen Cert.TopValue
open Idealize.ShloMosaic Idealize.ShloMosaic.ValueIdx Idealize.ShloMosaic.TcCoe

attribute [local instance] Cert.DistinctIdeal.Gen.facts

/-- The word of minus infinity denotes it. -/
theorem ofBits_negInf : (FloatOps.ofBits (F := Ideal) .f32 0xFF800000#32 : EReal) = ⊥ := by
  show Ideal.ofBits .f32 0xFF800000#32 = ⊥
  simp [Ideal.ofBits, Ideal.ieee]

theorem fold_max {n : ℕ} (f : Fin n → EReal) : (Finset.univ : Finset (Fin n)).fold max (FloatOps.ofBits (F := Ideal) .f32 0xFF800000#32 : EReal) f = ⨆ k, f k := by
  rw [ofBits_negInf]; exact Finset.sup_univ_eq_iSup f

/-- The program's select on order, at one entry. -/
theorem select_olt (a b c d : EReal) : Scalar.select (FloatOps.cmpf (F := Ideal) (φ := .f32) .olt a b) c d = if a < b then c else d := by
  show Scalar.select (BitVec.ofBool (decide (a < b))) c d = _
  by_cases h : a < b
  · rw [if_pos h, decide_eq_true h]; rfl
  · rw [if_neg h, decide_eq_false h]; rfl

variable (x : FVec Ideal S256x16384 .f32)

/-- Row `r` of the array. -/
def row (r : Fin 256) : Fin 16384 → EReal := fun k => x (ix2 r k)

/-- The column of the maxima of the rows. -/
abbrev maxCol (v : FVec Ideal S256x16384 .f32) : FVec Ideal S256x1 .f32 :=
  broadcastInDim S256x1 ![0] bcast_S256_S256x1_0 (Host.reduce FloatOps.maximumf v (constant S_ .f32 0xFF800000#32) reducesTo_S256x16384_S256_d1 h_S_)
/-- The entries below the column `c`, minus infinity elsewhere. -/
abbrev below (c : FVec Ideal S256x1 .f32) : FVec Ideal S256x16384 .f32 :=
  select (cmpf .olt x (broadcastInDim S256x16384 ![0, 1] bcast_S256x1_S256x16384_0_1 c)) x
    (broadcastInDim S256x16384 ![] bcast_S_S256x16384 (id (constant S_ .f32 0xFF800000#32)))

theorem bcol_apply (w : FVec Ideal S256 .f32) (r : Fin 256) (u : Fin 1) : broadcastInDim S256x1 ![0] bcast_S256_S256x1_0 w (ix2 r u) = w (ix1 r) :=
  congrArg w (funext fun b => match b with | ⟨0, _⟩ => rfl)

theorem bwide_apply (c : FVec Ideal S256x1 .f32) (r : Fin 256) (k : Fin 16384) :
    broadcastInDim S256x16384 ![0, 1] bcast_S256x1_S256x16384_0_1 c (ix2 r k) = c (ix2 r (0 : Fin 1)) :=
  congrArg c (funext fun b => match b with | ⟨0, _⟩ => rfl | ⟨1, _⟩ => rfl)

/-- `v` is what is left of the array once the first `n` values of each row are masked out. -/
structure IsRest (n : ℕ) (v : FVec Ideal S256x16384 .f32) : Prop where
  apply : ∀ r k, (v (ix2 r k) : EReal) = rest (row x r) n k
/-- `c` has the `n`-th value of each row. -/
structure IsTop (n : ℕ) (c : FVec Ideal S256x1 .f32) : Prop where
  apply : ∀ (r : Fin 256) (u : Fin 1), (c (ix2 r u) : EReal) = top (Set.range (row x r)) n

variable {x}

/-- The maximum along the rows. -/
theorem isTop_max {n : ℕ} {v : FVec Ideal S256x16384 .f32} (h : IsRest x n v) : IsTop x n (maxCol v) := by
  refine ⟨fun r u => ?_⟩
  have hr : S256x16384.Reduces [1] S256 := by decide
  rw [maxCol, bcol_apply, hostReduce_maximumf_eq_multiReduction v 0xFF800000#32 reducesTo_S256x16384_S256_d1 h_S_ hr (.inl rfl) rfl]
  rw [Ideal.multiReduction_maximumf_single v 0xFF800000#32 hr (.inl rfl) rfl (ix1 r)]
  refine (fold_max _).trans ?_
  rw [← iSup_rest]
  refine iSup_congr fun k => ?_
  rw [← h.apply r k]
  exact congrArg v (funext fun b => match b with | ⟨0, _⟩ => rfl | ⟨1, _⟩ => rfl)

/-- The entries below the `n`-th values. -/
theorem isRest_below {n : ℕ} {c : FVec Ideal S256x1 .f32} (hc : IsTop x n c) : IsRest x (n + 1) (below x c) := by
  refine ⟨fun r k => ?_⟩
  have hb : (broadcastInDim S256x16384 ![0, 1] bcast_S256x1_S256x16384_0_1 c (ix2 r k) : EReal) = top (Set.range (row x r)) n :=
    (bwide_apply c r k).trans (hc.apply r 0)
  rw [below, select_apply, cmpf_apply]
  refine (select_olt _ _ _ _).trans ?_
  rw [hb]
  show (if x (ix2 r k) < top (Set.range (row x r)) n then (x (ix2 r k) : EReal) else FloatOps.ofBits (F := Ideal) .f32 0xFF800000#32) = rest (row x r) (n + 1) k
  rw [ofBits_negInf]; rfl

theorem isRest_0 : IsRest x 0 x := ⟨fun _ _ => rfl⟩

/-- The columns by the recursion the program follows. -/
def colOf (x : FVec Ideal S256x16384 .f32) : ℕ → FVec Ideal S256x1 .f32
  | 0 => maxCol x
  | n + 1 => maxCol (below x (colOf x n))

theorem isTop_colOf (n : ℕ) : IsTop x n (colOf x n) := by
  induction n with
  | zero => exact isTop_max isRest_0
  | succ n ih => exact isTop_max (isRest_below ih)

/-- Eight columns side by side, read at one entry. -/
theorem cat_apply (c : Fin 8 → FVec Ideal S256x1 .f32) (r : Fin 256) (j : Fin 8) :
    concatenate S256x8 1 [⟨S256x1, c 0⟩, ⟨S256x1, c 1⟩, ⟨S256x1, c 2⟩, ⟨S256x1, c 3⟩, ⟨S256x1, c 4⟩, ⟨S256x1, c 5⟩, ⟨S256x1, c 6⟩, ⟨S256x1, c 7⟩]
      concatenates_S256x1_S256x1_S256x1_S256x1_S256x1_S256x1_S256x1_S256x1_S256x8_d1 (ix2 r j) = c j (ix2 r (0 : Fin 1)) := by
  match j with
  | 0 => exact congrArg (c 0) (funext fun b => match b with | ⟨0, _⟩ => rfl | ⟨1, _⟩ => rfl)
  | 1 => exact congrArg (c 1) (funext fun b => match b with | ⟨0, _⟩ => rfl | ⟨1, _⟩ => rfl)
  | 2 => exact congrArg (c 2) (funext fun b => match b with | ⟨0, _⟩ => rfl | ⟨1, _⟩ => rfl)
  | 3 => exact congrArg (c 3) (funext fun b => match b with | ⟨0, _⟩ => rfl | ⟨1, _⟩ => rfl)
  | 4 => exact congrArg (c 4) (funext fun b => match b with | ⟨0, _⟩ => rfl | ⟨1, _⟩ => rfl)
  | 5 => exact congrArg (c 5) (funext fun b => match b with | ⟨0, _⟩ => rfl | ⟨1, _⟩ => rfl)
  | 6 => exact congrArg (c 6) (funext fun b => match b with | ⟨0, _⟩ => rfl | ⟨1, _⟩ => rfl)
  | 7 => exact congrArg (c 7) (funext fun b => match b with | ⟨0, _⟩ => rfl | ⟨1, _⟩ => rfl)

/-- The program's result: entry `(r, j)` is the `j`-th largest distinct value of row `r`. -/
theorem result_apply (m : (ℓ : Loc nD τ sig) → Buf (Elt Ideal) ℓ) (c : Dev nD) (r : Fin 256) (j : Fin 8) :
    (Value.res_main_v37 (F := Ideal) m c (ix2 r j) : EReal) = top (Set.range (row (m ((c.tc : Thread nD τ).loc main_arg0)) r)) j :=
  (cat_apply (fun j => colOf (m ((c.tc : Thread nD τ).loc main_arg0)) j) r j).trans ((isTop_colOf (x := m ((c.tc : Thread nD τ).loc main_arg0)) j).apply r 0)

end Cert.DistinctIdeal.Cols

end
-- ==== Proof.Value.Sorted.lean ====
/-
# A sorted row

Where a row's values are in falling order and the first few of them differ, the `j`-th of these is the `j`-th largest
distinct value of the row.
-/
module

public import proofs.«01_k».proof.Proof.Value.Top

@[expose] public section

noncomputable section

namespace Cert.TopValue

/-- The first `J` values of a falling sequence are its largest distinct ones if neighbours among them differ. -/
theorem top_of_falling {n : ℕ} (g : Fin n → EReal) (hg : ∀ i j, i < j → g j ≤ g i) {J : ℕ} (hJ : J ≤ n)
    (hne : ∀ k, (hk : k + 1 < J) → g ⟨k + 1, by omega⟩ ≠ g ⟨k, by omega⟩) :
    ∀ j, (hj : j < J) → top (Set.range g) j = g ⟨j, by omega⟩ := by
  intro j
  induction j with
  | zero =>
    intro hj
    refine le_antisymm (sSup_le ?_) (le_sSup ⟨_, rfl⟩)
    rintro _ ⟨i, rfl⟩
    rcases Nat.eq_zero_or_pos i.val with h | h
    · exact le_of_eq (congrArg g (Fin.ext h))
    · exact hg _ _ (Fin.lt_def.mpr h)
  | succ j ih =>
    intro hj
    have h0 := ih (by omega)
    have hlt : g ⟨j + 1, by omega⟩ < g ⟨j, by omega⟩ := lt_of_le_of_ne (hg _ _ (Fin.lt_def.mpr (Nat.lt_succ_self j))) (hne j hj)
    show sSup {x | x ∈ Set.range g ∧ x < top (Set.range g) j} = _
    rw [h0]
    refine le_antisymm (sSup_le ?_) (le_sSup ⟨⟨_, rfl⟩, hlt⟩)
    rintro _ ⟨⟨i, rfl⟩, hi⟩
    rcases Nat.lt_trichotomy i.val (j + 1) with h | h | h
    · refine absurd hi (not_lt.mpr ?_)
      rcases Nat.lt_or_ge i.val j with h' | h'
      · exact hg _ _ (Fin.lt_def.mpr h')
      · exact le_of_eq (congrArg g (Fin.ext (by show j = i.val; omega)))
    · exact le_of_eq (congrArg g (Fin.ext h))
    · exact hg _ _ (Fin.lt_def.mpr h)

end Cert.TopValue

end
-- ==== Proof.Value.Reference.lean ====
/-
# The reference's values

At the extended reals, entry `(r, j)` of the reference is row `r`'s entry at the place that the sort of the negated row puts
at `j`; these entries fall along `j`.
-/
module

public import proofs.«01_k».proof.Proof.Value.Sorted
public import proofs.«01_k».proof.Proof.Gen.ReferenceIdeal.Run
public import Idealize.ShloMosaic.PureOps.Ideal.Laws
public import Idealize.ShloMosaic.Lib.SortFacts
public import Idealize.ShloMosaic.Lib.ValueIdx
public import Idealize.ShloMosaic.Lib.ValueLayoutCasts

@[expose] public section

noncomputable section

namespace Cert.ReferenceIdeal.Sorted

open Cert.ReferenceIdeal Cert.ReferenceIdeal.Gen Cert.TopValue
open Idealize.ShloMosaic Idealize.ShloMosaic.ValueIdx Idealize.ShloMosaic.TcCoe

attribute [local instance] Cert.ReferenceIdeal.Gen.facts

/-! ### The comparator -/

/-- A key as the comparator reads it: itself. -/
theorem key_eq (a : EReal) : Scalar.select (FloatOps.cmpf (F := Ideal) (φ := .f32) .une a a) (FloatOps.ofBits (F := Ideal) .f32 0x7FC00000#32 : EReal)
    (Scalar.select (FloatOps.cmpf (F := Ideal) (φ := .f32) .oeq a (FloatOps.ofBits (F := Ideal) .f32 0x00000000#32)) (FloatOps.ofBits (F := Ideal) .f32 0x00000000#32 : EReal) a) = a := by
  have h0 : (FloatOps.ofBits (F := Ideal) .f32 0x00000000#32 : EReal) = 0 := by
    show Ideal.ofBits .f32 0x00000000#32 = 0
    simp [Ideal.ofBits, Ideal.ieee]
  have h1 : FloatOps.cmpf (F := Ideal) (φ := .f32) .une a a = 0#1 := by
    show BitVec.ofBool (decide (a ≠ a)) = 0#1
    simp
  rw [h1, select_zero, h0]
  show Scalar.select (BitVec.ofBool (decide (a = 0))) 0 a = a
  by_cases h : a = 0
  · rw [h]; simp [Scalar.select]
  · rw [decide_eq_false h]; rfl

/-- The comparator orders by the key. -/
theorem comparator_eq (l r : EReal × BitVec 32) : comparator_f32_i32_d1 (F := Ideal) l r = BitVec.ofBool (decide (l.1 < r.1)) := by
  unfold comparator_f32_i32_d1
  show FloatOps.cmpf (F := Ideal) (φ := .f32) .olt _ _ = _
  rw [key_eq l.1, key_eq r.1]
  rfl

variable (x : FVec Ideal S256x16384 .f32)

/-- Row `r` of the array. -/
def row (r : Fin 256) : Fin 16384 → EReal := fun k => x (ix2 r k)

/-- The place in row `r` that the sort puts at `k`. -/
def place (r : Fin 256) : Fin 16384 → Fin 16384 :=
  sortedFrom fun k k' => comparator_f32_i32_d1 (F := Ideal) (Host.negf x (ix2 r k), iotaInDim S256x16384 32 1 (ix2 r k))
    (Host.negf x (ix2 r k'), iotaInDim S256x16384 32 1 (ix2 r k')) == 1#1

theorem place_surj (r : Fin 256) : Function.Surjective (place x r) := sortedFrom_surjective _

/-- The row's values fall along the sorted places. -/
theorem place_falls (r : Fin 256) (i j : Fin 16384) (hij : i < j) : row x r (place x r j) ≤ row x r (place x r i) := by
  have hB : ∀ k k' : Fin 16384, (comparator_f32_i32_d1 (F := Ideal) (Host.negf x (ix2 r k), iotaInDim S256x16384 32 1 (ix2 r k))
    (Host.negf x (ix2 r k'), iotaInDim S256x16384 32 1 (ix2 r k')) == 1#1) = decide (row x r k' < row x r k) := fun k k' => by
    rw [comparator_eq]
    show (BitVec.ofBool (decide (-(x (ix2 r k) : EReal) < -(x (ix2 r k') : EReal))) == 1#1) = _
    rw [decide_eq_decide.mpr (EReal.neg_lt_neg_iff)]
    show (BitVec.ofBool (decide (row x r k' < row x r k)) == 1#1) = _
    generalize decide (row x r k' < row x r k) = b
    revert b; decide
  have h := sortedFrom_noInversion (fun k k' => decide (row x r k' < row x r k))
    (fun k k' => comparator_f32_i32_d1 (F := Ideal) (Host.negf x (ix2 r k), iotaInDim S256x16384 32 1 (ix2 r k))
    (Host.negf x (ix2 r k'), iotaInDim S256x16384 32 1 (ix2 r k')) == 1#1)
    (fun a b h => by rw [hB] at h; exact decide_eq_false (not_lt.mpr (of_decide_eq_true h).le))
    (fun a b h => by rw [hB]; exact h)
    (fun a b c h1 h2 => decide_eq_false (not_lt.mpr ((not_lt.mp (of_decide_eq_false h1)).trans (not_lt.mp (of_decide_eq_false h2)))))
    i j hij
  exact not_lt.mp (of_decide_eq_false h)

/-! ### The indices -/

theorem along_apply (r : Fin 256) (q k : Fin 16384) (hd : 1 < S256x16384.rank) : (ix2 r q : S256x16384.Idx).along ⟨1, hd⟩ k = ix2 r k := by
  funext b
  match b with
  | ⟨0, _⟩ => rfl
  | ⟨1, _⟩ => rfl

/-- A sort of two operands along the rows, its second result. -/
theorem sort2_snd {α β : Type} (cmp : α × β → α × β → BitVec 1) (a : S256x16384.Idx → α) (b : S256x16384.Idx → β) (r : Fin 256) (q : Fin 16384) :
    (Host.sort2 S256x16384 1 cmp a b).2 (ix2 r q)
      = b (ix2 r (sortedFrom (fun k k' => cmp (a (ix2 r k), b (ix2 r k)) (a (ix2 r k'), b (ix2 r k')) == 1#1) q)) := by
  have hd : 1 < S256x16384.rank := by decide
  unfold Host.sort2
  rw [dif_pos hd]
  refine (congrArg b (along_apply r q _ hd)).trans (congrArg (fun f => b (ix2 r (sortedFrom f q))) ?_)
  funext k k'
  exact congrArg₂ (fun u v => cmp (a u, b u) (a v, b v) == 1#1) (along_apply r q k hd) (along_apply r q k' hd)

/-- The sort's second result. -/
theorem sort_apply (r : Fin 256) (q : Fin 16384) :
    (Host.sort2 S256x16384 1 (comparator_f32_i32_d1 (F := Ideal)) (Host.negf x) (iotaInDim S256x16384 32 1)).2 (ix2 r q)
      = BitVec.ofNat 32 (place x r q).val :=
  sort2_snd _ _ _ r q

theorem toInt_place (p : ℕ) (hp : p < 16384) : (BitVec.ofNat 32 p).toInt = (p : ℤ) := by
  rw [BitVec.toInt_eq_toNat_of_lt (by rw [BitVec.toNat_ofNat]; omega), BitVec.toNat_ofNat, Nat.mod_eq_of_lt (by omega)]

theorem not_negative (p : ℕ) (hp : p < 16384) : IntOp.cmpi .slt (BitVec.ofNat 32 p) 0#32 = 0#1 := by
  show BitVec.ofBool (decide ((BitVec.ofNat 32 p).toInt < (0#32).toInt)) = 0#1
  rw [toInt_place p hp, decide_eq_false (by show ¬ (p : ℤ) < 0; omega)]; rfl

theorem in_range (p : ℕ) (hp : p < 16384) :
    IntOp.andi (IntOp.cmpi .sge (BitVec.ofNat 32 p) 0#32) (IntOp.cmpi .sle (BitVec.ofNat 32 p) 16383#32) = 1#1 := by
  show IntOp.andi (BitVec.ofBool (decide ((0#32).toInt ≤ (BitVec.ofNat 32 p).toInt))) (BitVec.ofBool (decide ((BitVec.ofNat 32 p).toInt ≤ (16383#32).toInt))) = 1#1
  rw [toInt_place p hp, decide_eq_true (by show (0 : ℤ) ≤ (p : ℤ); omega), decide_eq_true (by show (p : ℤ) ≤ 16383; omega)]; rfl

/-- The indices as the reference takes them. -/
abbrev idx : IVec S256x8 32 :=
  extractStridedSlice S256x8 ![0, 0] ((Host.sort2 S256x16384 1 (comparator_f32_i32_d1 (F := Ideal)) (Host.negf x) (iotaInDim S256x16384 32 1)).2) slices_S256x16384_S256x8_0_0
/-- With negative ones wrapped, as a column. -/
abbrev idxs : IVec S256x8x1 32 :=
  shapeCast S256x8x1 (select (cmpi .slt (idx x) (broadcastInDim S256x8 ![] bcast_S_S256x8 (constantI S_ 32 0#32)))
    (addi (idx x) (broadcastInDim S256x8 ![] bcast_S_S256x8 (constantI S_ 32 16384#32))) (idx x)) shapeCasts_S256x8_S256x8x1

/-- The `j`-th place of the sort. -/
abbrev at8 (j : Fin 8) : Fin 16384 := ⟨j.val, by omega⟩

theorem idx_apply (r : Fin 256) (j : Fin 8) : idx x (ix2 r j) = BitVec.ofNat 32 (place x r (at8 j)).val := by
  rw [← sort_apply]
  exact congrArg (Host.sort2 S256x16384 1 (comparator_f32_i32_d1 (F := Ideal)) (Host.negf x) (iotaInDim S256x16384 32 1)).2
    (funext fun b => match b with | ⟨0, _⟩ => Fin.ext (Nat.zero_add _) | ⟨1, _⟩ => Fin.ext (Nat.zero_add _))

theorem idxs_apply (r : Fin 256) (j : Fin 8) (u : Fin 1) : idxs x (ix3 r j u) = BitVec.ofNat 32 (place x r (at8 j)).val := by
  have hc : ∀ v : IVec S256x8 32, shapeCast S256x8x1 v shapeCasts_S256x8_S256x8x1 (ix3 r j u) = v (ix2 r j) := fun v =>
    shapeCast_apply v shapeCasts_S256x8_S256x8x1 _ _ (by
      rw [Shape.rowMajor_val_three, Shape.rowMajor_val_two]
      show r.val * 8 + j.val = (r.val * 8 + j.val) * 1 + u.val
      omega)
  rw [idxs, hc, select_apply]
  show Scalar.select (IntOp.cmpi .slt (idx x (ix2 r j)) 0#32) _ (idx x (ix2 r j)) = _
  rw [idx_apply, not_negative _ (place x r (at8 j)).isLt, select_zero]

/-- A conjunction of ones is one. -/
theorem andi_ones {s t u : Shape} {axes : List (Fin s.rank)} (v : IVec s 1) (i : IVec u 1) (h : s.ReducesTo axes t) (hu : 0 < u.numel)
    (hv : ∀ k, v k = 1#1) (hi : ∀ k, i k = 1#1) (j : t.Idx) : Host.reduce IntOp.andi v i h hu j = 1#1 := by
  rw [Host.reduce_eq_foldl, hi]
  generalize List.filter _ _ = l
  induction l with
  | nil => rfl
  | cons a l ih => rw [List.foldl_cons, hv]; exact ih

theorem siIdx_eq (r : Fin 256) (j : Fin 8) (k : Fin (gather_S256x16384_S256x8x1_S256x8_n_1_0_0_1_2_11).startIndexMap.length) :
    (gather_S256x16384_S256x8x1_S256x8_n_1_0_0_1_2_11).siIdx (ix2 r j) k = ix3 r j (0 : Fin 1) := by
  have hk : k = ⟨0, by decide⟩ := Fin.ext (by have := k.isLt; simp [gather_S256x16384_S256x8x1_S256x8_n_1_0_0_1_2_11] at this; omega)
  rw [hk]
  funext b
  match b with
  | ⟨0, _⟩ => rfl
  | ⟨1, _⟩ => rfl
  | ⟨2, _⟩ => rfl

/-- The gather reads, in its own row, the place that its index names. -/
theorem gather_apply (i : IVec S256x8x1 32) (r : Fin 256) (j : Fin 8) (p : Fin 16384) (hp : i (ix3 r j (0 : Fin 1)) = BitVec.ofNat 32 p.val) :
    Host.gather gather_S256x16384_S256x8x1_S256x8_n_1_0_0_1_2_11 x i (ix2 r j) = x (ix2 r p) := by
  unfold Host.gather
  refine congrArg x (funext fun a => Fin.ext ?_)
  have hoff : ∀ a, (gather_S256x16384_S256x8x1_S256x8_n_1_0_0_1_2_11).offCoord (ix2 r j) a = 0 := fun a =>
    GatherDims.offCoord_eq_zero _ _ _ (fun h => by
      have h' := (GatherDims.mem_sKept _ _).mp h
      match a with
      | ⟨0, _⟩ => exact h'.2 (List.mem_singleton.mpr rfl)
      | ⟨1, _⟩ => exact h'.1 (List.mem_singleton.mpr rfl))
  show (gather_S256x16384_S256x8x1_S256x8_n_1_0_0_1_2_11).start (ix2 r j) i a + (gather_S256x16384_S256x8x1_S256x8_n_1_0_0_1_2_11).batchCoord (ix2 r j) a
    + (gather_S256x16384_S256x8x1_S256x8_n_1_0_0_1_2_11).offCoord (ix2 r j) a = _
  rw [hoff, Nat.add_zero]
  have h01 : a = (0 : Fin 2) ∨ a = (1 : Fin 2) := match a with
    | ⟨0, _⟩ => Or.inl rfl
    | ⟨1, _⟩ => Or.inr rfl
  rcases h01 with rfl | rfl
  · rw [GatherDims.start_batching _ _ _ _ (List.mem_singleton.mpr rfl), Nat.zero_add]
    unfold GatherDims.batchCoord
    rw [dif_pos (show (0 : Fin 2) ∈ (gather_S256x16384_S256x8x1_S256x8_n_1_0_0_1_2_11).operandBatchingDims from List.mem_singleton.mpr rfl)]
    rfl
  · rw [GatherDims.batchCoord_eq_zero _ _ _ (fun h => absurd (List.mem_singleton.mp h) (by decide)), Nat.add_zero]
    unfold GatherDims.start
    rw [dif_pos (show (1 : Fin 2) ∈ (gather_S256x16384_S256x8x1_S256x8_n_1_0_0_1_2_11).startIndexMap from List.mem_singleton.mpr rfl), siIdx_eq, hp, toInt_place _ p.isLt]
    show min (p.val : ℤ).toNat 16383 = p.val
    omega

/-- The reference's result. -/
abbrev refVal : FVec Ideal S256x8 .f32 :=
  select (Host.reduce IntOp.andi (andi (cmpi .sge (idxs x) (broadcastInDim S256x8x1 ![] bcast_S_S256x8x1 (constantI S_ 32 0#32)))
      (cmpi .sle (idxs x) (broadcastInDim S256x8x1 ![0, 1, 2] bcast_S1x1x1_S256x8x1_0_1_2 (broadcastInDim S1x1x1 ![2] bcast_S1_S1x1x1_2 (constantI S1 32 16383#32)))))
      (constantI S_ 1 1#1) reducesTo_S256x8x1_S256x8_d2 h_S_)
    (Host.gather gather_S256x16384_S256x8x1_S256x8_n_1_0_0_1_2_11 x (idxs x)) (broadcastInDim S256x8 ![] bcast_S_S256x8 (constant S_ .f32 0x7FC00000#32))

/-- Entry `(r, j)` of the reference. -/
theorem refVal_apply (r : Fin 256) (j : Fin 8) : (refVal x (ix2 r j) : EReal) = row x r (place x r (at8 j)) := by
  have h1 : Host.reduce IntOp.andi (andi (cmpi .sge (idxs x) (broadcastInDim S256x8x1 ![] bcast_S_S256x8x1 (constantI S_ 32 0#32)))
      (cmpi .sle (idxs x) (broadcastInDim S256x8x1 ![0, 1, 2] bcast_S1x1x1_S256x8x1_0_1_2 (broadcastInDim S1x1x1 ![2] bcast_S1_S1x1x1_2 (constantI S1 32 16383#32)))))
      (constantI S_ 1 1#1) reducesTo_S256x8x1_S256x8_d2 h_S_ (ix2 r j) = 1#1 := by
    refine andi_ones _ _ _ _ (fun k => ?_) (fun _ => rfl) _
    obtain ⟨a, b, c, rfl⟩ : ∃ (a : Fin 256) (b : Fin 8) (c : Fin 1), k = ix3 a b c := ⟨k 0, k 1, k 2, eq_ix3 k⟩
    show IntOp.andi (IntOp.cmpi .sge (idxs x (ix3 a b c)) 0#32) (IntOp.cmpi .sle (idxs x (ix3 a b c)) 16383#32) = 1#1
    rw [idxs_apply]
    exact in_range _ (place x a (at8 b)).isLt
  rw [refVal, select_apply, h1, select_one]
  exact gather_apply x _ r j _ (idxs_apply x r j 0)

/-- Where the first `j + 1` entries of a row differ, entry `j` is the row's `j`-th largest distinct value. -/
theorem refVal_top (r : Fin 256) (j : Fin 8)
    (hne : ∀ k : Fin 7, k.val < j.val → (refVal x (ix2 r (⟨k.val + 1, by omega⟩ : Fin 8)) : EReal) ≠ refVal x (ix2 r (⟨k.val, by omega⟩ : Fin 8))) :
    (refVal x (ix2 r j) : EReal) = top (Set.range (row x r)) j := by
  have hr : Set.range (row x r) = Set.range (row x r ∘ place x r) := ((place_surj x r).range_comp _).symm
  rw [refVal_apply, hr]
  refine (top_of_falling (row x r ∘ place x r) (fun i j h => place_falls x r i j h) (J := j.val + 1) (by omega) (fun k hk => ?_) j (Nat.lt_succ_self _)).symm
  have h := hne ⟨k, by omega⟩ (by show k < j.val; omega)
  rw [refVal_apply, refVal_apply] at h
  exact h

end Cert.ReferenceIdeal.Sorted

end
-- ==== Proof.Value.Untied.lean ====
/-
# The mask `untied`

The mask `untied` selects entry `(r, j)` where the first `j + 1` entries that the reference gives for row `r` differ. There
the reference's entry is the row's `j`-th largest distinct value.
-/
module

public import proofs.«01_k».proof.Defs
public import proofs.«01_k».proof.Proof.Value.Reference

@[expose] public section

noncomputable section

namespace Cert.On_untied.Read

open Idealize.ShloMosaic Idealize.ShloMosaic.ValueIdx

/-- The side conditions that the mask states. -/
theorem facts : Cert.On_untied.Facts where
  slices_S256x16384_S256x8_0_0 := by decide
  bcast_S_S256x8 := by decide
  shapeCasts_S256x8_S256x8x1 := by decide
  bcast_S_S256x8x1 := by decide
  bcast_S1_S1x1x1_2 := by decide
  bcast_S1x1x1_S256x8x1_0_1_2 := by decide
  reducesTo_S256x8x1_S256x8_d2 := by decide
  h_S_ := by decide
  slices_S256x8_S256x7_0_1 := by decide
  slices_S256x8_S256x7_0_0 := by decide
  bcast_S_S256x1 := by decide
  slices_S256x7_S256x1_0_0 := by decide
  slices_S256x7_S256x1_0_1 := by decide
  slices_S256x7_S256x1_0_2 := by decide
  slices_S256x7_S256x1_0_3 := by decide
  slices_S256x7_S256x1_0_4 := by decide
  slices_S256x7_S256x1_0_5 := by decide
  slices_S256x7_S256x1_0_6 := by decide
  concatenates_S256x1_S256x1_S256x1_S256x1_S256x1_S256x1_S256x1_S256x1_S256x8_d1 := by decide
  gather_S256x16384_S256x8x1_S256x8_n_1_0_0_1_2_11_wf := by decide

attribute [local instance] facts

/-- The comparator that the mask sorts by is the reference's. -/
theorem comparator_eq : Cert.On_untied.comparator_f32_i32_d1 (F := Ideal) = Cert.ReferenceIdeal.comparator_f32_i32_d1 (F := Ideal) := rfl

variable (x : FVec Ideal Cert.On_untied.S256x16384 .f32)

/-- The mask reads the reference's result. -/
theorem taken_eq : Cert.On_untied.fn_take_along_axis (F := Ideal) x
      (extractStridedSlice Cert.On_untied.S256x8 ![0, 0] (Cert.On_untied.fn_argsort (F := Ideal) (Host.negf x))
        Cert.On_untied.Facts.slices_S256x16384_S256x8_0_0)
    = Cert.ReferenceIdeal.Sorted.refVal x := by
  unfold Cert.On_untied.fn_take_along_axis Cert.On_untied.fn_argsort
  rw [comparator_eq]
  rfl

/-- Where neighbouring entries of the reference differ. -/
def differ : IVec Cert.On_untied.S256x7 1 :=
  cmpf (F := Ideal) .une
    (extractStridedSlice Cert.On_untied.S256x7 ![0, 1] (Cert.ReferenceIdeal.Sorted.refVal x) Cert.On_untied.Facts.slices_S256x8_S256x7_0_1)
    (extractStridedSlice Cert.On_untied.S256x7 ![0, 0] (Cert.ReferenceIdeal.Sorted.refVal x) Cert.On_untied.Facts.slices_S256x8_S256x7_0_0)

/-- Neighbouring entries of the reference differ where `differ` says so. -/
theorem apart (r : Fin 256) (k : Fin 7) (h1 : differ x (ix2 r k) = 1#1) :
    (Cert.ReferenceIdeal.Sorted.refVal x (ix2 r (⟨k.val + 1, by omega⟩ : Fin 8)) : EReal)
      ≠ Cert.ReferenceIdeal.Sorted.refVal x (ix2 r (⟨k.val, by omega⟩ : Fin 8)) := by
  intro he
  rw [differ, cmpf_apply] at h1
  have e1 : extractStridedSlice Cert.On_untied.S256x7 ![0, 1] (Cert.ReferenceIdeal.Sorted.refVal x) Cert.On_untied.Facts.slices_S256x8_S256x7_0_1 (ix2 r k)
      = Cert.ReferenceIdeal.Sorted.refVal x (ix2 r (⟨k.val + 1, by omega⟩ : Fin 8)) :=
    congrArg (Cert.ReferenceIdeal.Sorted.refVal x) (funext fun b => match b with | ⟨0, _⟩ => Fin.ext (Nat.zero_add _) | ⟨1, _⟩ => Fin.ext (Nat.add_comm _ _))
  have e2 : extractStridedSlice Cert.On_untied.S256x7 ![0, 0] (Cert.ReferenceIdeal.Sorted.refVal x) Cert.On_untied.Facts.slices_S256x8_S256x7_0_0 (ix2 r k)
      = Cert.ReferenceIdeal.Sorted.refVal x (ix2 r (⟨k.val, by omega⟩ : Fin 8)) :=
    congrArg (Cert.ReferenceIdeal.Sorted.refVal x) (funext fun b => match b with | ⟨0, _⟩ => Fin.ext (Nat.zero_add _) | ⟨1, _⟩ => Fin.ext (Nat.zero_add _))
  rw [e1, e2] at h1
  have h2 : (BitVec.ofBool (decide ((Cert.ReferenceIdeal.Sorted.refVal x (ix2 r (⟨k.val + 1, by omega⟩ : Fin 8)) : EReal)
      ≠ Cert.ReferenceIdeal.Sorted.refVal x (ix2 r (⟨k.val, by omega⟩ : Fin 8))))) = 1#1 := h1
  rw [decide_eq_false (not_not.mpr he)] at h2
  exact absurd h2 (by decide)

/-- One column of `differ`. -/
theorem slices (k : ℕ) (hk : k < 7) : Cert.On_untied.S256x7.Slices ![0, k] Cert.On_untied.S256x1 :=
  (show ∀ k : Fin 7, Cert.On_untied.S256x7.Slices ![0, k.val] Cert.On_untied.S256x1 by decide) ⟨k, hk⟩

/-- The mask's columns, by the recursion it follows: each is the one before it and one more column of `d`. -/
def colOf (d : IVec Cert.On_untied.S256x7 1) : (n : ℕ) → n < 8 → IVec Cert.On_untied.S256x1 1
  | 0, _ => broadcastInDim Cert.On_untied.S256x1 ![] Cert.On_untied.Facts.bcast_S_S256x1 (constantI Cert.On_untied.S_ 1 1#1)
  | n + 1, h => andi (colOf d n (by omega)) (extractStridedSlice Cert.On_untied.S256x1 ![0, n] d (slices n (by omega)))

/-- Both of two bits whose conjunction is one are one. -/
theorem andi_one : ∀ a b : BitVec 1, IntOp.andi a b = 1#1 → a = 1#1 ∧ b = 1#1 := by decide

/-- Where column `n` is one, so are the first `n` columns of `d`. -/
theorem colOf_one (d : IVec Cert.On_untied.S256x7 1) (r : Fin 256) : ∀ (n : ℕ) (hn : n < 8), colOf d n hn (ix2 r (0 : Fin 1)) = 1#1 →
    ∀ k : Fin 7, k.val < n → d (ix2 r k) = 1#1
  | 0, _, _, k, hk => absurd hk (Nat.not_lt_zero _)
  | n + 1, hn, h, k, hk => by
    have h2 := andi_one _ _ h
    rcases Nat.lt_or_ge k.val n with hlt | hge
    · exact colOf_one d r n (by omega) h2.1 k hlt
    · have hkn : k = ⟨n, by omega⟩ := Fin.ext (by show k.val = n; omega)
      rw [hkn]
      refine Eq.trans (congrArg d ?_) h2.2
      exact funext fun b => match b with | ⟨0, _⟩ => Fin.ext (Nat.zero_add _).symm | ⟨1, _⟩ => Fin.ext rfl

/-- Eight columns of bits side by side, read at one entry. -/
theorem cat_apply (c : Fin 8 → IVec Cert.On_untied.S256x1 1) (r : Fin 256) (j : Fin 8) :
    concatenate Cert.On_untied.S256x8 1 [⟨Cert.On_untied.S256x1, c 0⟩, ⟨Cert.On_untied.S256x1, c 1⟩, ⟨Cert.On_untied.S256x1, c 2⟩,
        ⟨Cert.On_untied.S256x1, c 3⟩, ⟨Cert.On_untied.S256x1, c 4⟩, ⟨Cert.On_untied.S256x1, c 5⟩, ⟨Cert.On_untied.S256x1, c 6⟩,
        ⟨Cert.On_untied.S256x1, c 7⟩]
      Cert.On_untied.Facts.concatenates_S256x1_S256x1_S256x1_S256x1_S256x1_S256x1_S256x1_S256x1_S256x8_d1 (ix2 r j) = c j (ix2 r (0 : Fin 1)) := by
  match j with
  | 0 => exact congrArg (c 0) (funext fun b => match b with | ⟨0, _⟩ => rfl | ⟨1, _⟩ => rfl)
  | 1 => exact congrArg (c 1) (funext fun b => match b with | ⟨0, _⟩ => rfl | ⟨1, _⟩ => rfl)
  | 2 => exact congrArg (c 2) (funext fun b => match b with | ⟨0, _⟩ => rfl | ⟨1, _⟩ => rfl)
  | 3 => exact congrArg (c 3) (funext fun b => match b with | ⟨0, _⟩ => rfl | ⟨1, _⟩ => rfl)
  | 4 => exact congrArg (c 4) (funext fun b => match b with | ⟨0, _⟩ => rfl | ⟨1, _⟩ => rfl)
  | 5 => exact congrArg (c 5) (funext fun b => match b with | ⟨0, _⟩ => rfl | ⟨1, _⟩ => rfl)
  | 6 => exact congrArg (c 6) (funext fun b => match b with | ⟨0, _⟩ => rfl | ⟨1, _⟩ => rfl)
  | 7 => exact congrArg (c 7) (funext fun b => match b with | ⟨0, _⟩ => rfl | ⟨1, _⟩ => rfl)

/-- The mask is its eight columns side by side. -/
theorem fn_apply (r : Fin 256) (j : Fin 8) : Cert.On_untied.fn (F := Ideal) x (ix2 r j) = colOf (differ x) j.val j.isLt (ix2 r (0 : Fin 1)) := by
  unfold Cert.On_untied.fn
  dsimp only
  rw [taken_eq]
  exact cat_apply (fun j => colOf (differ x) j.val j.isLt) r j

/-- Where the mask selects an entry, it is the row's `j`-th largest distinct value. -/
theorem selected (r : Fin 256) (j : Fin 8) (h : Cert.On_untied.fn (F := Ideal) x (ix2 r j) = 1#1) :
    (Cert.ReferenceIdeal.Sorted.refVal x (ix2 r j) : EReal) = Cert.TopValue.top (Set.range (Cert.ReferenceIdeal.Sorted.row x r)) j :=
  Cert.ReferenceIdeal.Sorted.refVal_top x r j fun k hk =>
    apart x r k (colOf_one (differ x) r j.val j.isLt ((fn_apply x r j).symm.trans h) k hk)

end Cert.On_untied.Read

end
-- ==== Proof.Value.Kernel.lean ====
/-
# The kernel's result

Candidates `0, …, 7` of the sixteen blocks of a row are their largest distinct values, so the eight largest distinct
candidates are the row's (`top_merge`): the kernel's result is the one-device program's,
and the reference's wherever the mask `untied` selects.
-/
module

public import proofs.«01_k».proof.Defs
public import proofs.«01_k».proof.Proof.Value.Rows
public import proofs.«01_k».proof.Proof.Value.Distinct
public import proofs.«01_k».proof.Proof.Value.Untied
public import proofs.«01_k».proof.Proof.Ideal.Launch

@[expose] public section

noncomputable section

namespace Cert.KernelIdeal.Merge

open Cert.KernelIdeal Cert.KernelIdeal.Gen Cert.KernelIdeal.Top Cert.TopValue
open Idealize.ShloMosaic Idealize.ShloMosaic.ValueIdx Idealize.ShloMosaic.TcCoe

attribute [local instance] Cert.KernelIdeal.Gen.facts Cert.DistinctIdeal.Gen.facts

variable (m : (ℓ : Loc nD τ sig) → Buf (Elt Ideal) ℓ) (ρ : Dev nD → PrngReg)

/-- The staged block is the device's block of the argument. -/
theorem xstg_eq (c : Dev nD) : xstg m ρ c = m ((c : Thread nD τ).loc main_arg0) :=
  Memref.read_access_unit_zero (Elt Ideal) main_arg0 (funext fun a => by fin_cases a <;> decide) (fun a => by fin_cases a <;> decide) _

theorem src_surj (c d : Dev nD) : ∃ s : Fin 16, src c s = d := by revert c d; decide +kernel

/-- Candidate `q` of row `r`. -/
theorem cand_apply (c : Dev nD) (r : Fin 256) (q : Fin 128) :
    Rows.col (cand m ρ c) r q
      = top (Set.range (Rows.row (m ((src c (⟨q.val / 8, by omega⟩ : Fin 16) : Thread nD τ).loc main_arg0)) r)) (q.val % 8) := by
  rw [Rows.col_apply, ← xstg_eq m ρ]
  exact Eq.trans (congrArg (rowPay (xstg m ρ (src c (⟨q.val / 8, by omega⟩ : Fin 16))) (⟨q.val % 8, by omega⟩ : Fin 8))
    (funext fun b => match b with | ⟨0, _⟩ => rfl | ⟨1, _⟩ => rfl | ⟨2, _⟩ => rfl)) (Rows.rowPay_apply _ (⟨q.val % 8, by omega⟩ : Fin 8) (0 : Fin 1) (0 : Fin 1) r)

variable (y : FVec Ideal Cert.DistinctIdeal.S256x16384 .f32)
  (hy : ∀ c : Dev nD, m ((c : Thread nD τ).loc main_arg0) = Layout.block ⟨2, ![256, 1024]⟩ ⟨2, ![256, 16384]⟩ 1 16 c y)
include hy

/-- A row is the union of its sixteen pieces. -/
theorem row_union (r : Fin 256) : Set.range (Cert.DistinctIdeal.Cols.row y r)
    = ⋃ c : Dev nD, Set.range (Rows.row (m ((c : Thread nD τ).loc main_arg0)) r) := by
  have hat : ∀ (c : Dev nD) (k : Fin 1024), Rows.row (m ((c : Thread nD τ).loc main_arg0)) r k
      = Cert.DistinctIdeal.Cols.row y r ⟨c.val * 1024 + k.val, by have : c.val < 16 := c.isLt; omega⟩ := fun c k => by
    unfold Rows.row
    rw [hy c, Layout.block_apply]
    exact congrArg y (funext fun b => match b with | ⟨0, _⟩ => rfl | ⟨1, _⟩ => rfl)
  ext e
  simp only [Set.mem_range, Set.mem_iUnion]
  constructor
  · rintro ⟨k, rfl⟩
    refine ⟨⟨k.val / 1024, by show k.val / 1024 < 16; omega⟩, ⟨k.val % 1024, by omega⟩, (hat _ _).trans (congrArg _ (Fin.ext ?_))⟩
    show k.val / 1024 * 1024 + k.val % 1024 = k.val
    omega
  · rintro ⟨c, k, rfl⟩
    exact ⟨_, (hat c k).symm⟩

/-- The kernel's result, at one entry. -/
theorem out_apply (c : Dev nD) (r : Fin 256) (j : Fin 8) :
    (outAt m ρ c (ix2 r j) : EReal) = top (Set.range (Cert.DistinctIdeal.Cols.row y r)) j := by
  have h1 : (outAt m ρ c (ix2 r j) : EReal) = top (Set.range (Rows.col (cand m ρ c) r)) j :=
    Eq.trans (congrArg (colPay (cand m ρ c) j) (funext fun b => match b with | ⟨0, _⟩ => rfl | ⟨1, _⟩ => rfl))
      (Rows.colPay_apply (cand m ρ c) j r (0 : Fin 1))
  rw [h1]
  refine top_merge (fun d : Dev nD => Set.range (Rows.row (m ((d : Thread nD τ).loc main_arg0)) r)) (Set.finite_range _) (row_union m y hy r)
    (N := 7) _ (fun e => ⟨?_, ?_⟩) j j.isLt
  · rintro ⟨q, rfl⟩
    exact ⟨src c (⟨q.val / 8, by omega⟩ : Fin 16), q.val % 8, by omega, cand_apply m ρ c r q⟩
  · rintro ⟨d, k, hk, rfl⟩
    obtain ⟨s, rfl⟩ := src_surj c d
    refine ⟨⟨s.val * 8 + k, by omega⟩, (cand_apply m ρ c r _).trans ?_⟩
    have e1 : (⟨(s.val * 8 + k) / 8, by omega⟩ : Fin 16) = s := Fin.ext (by show (s.val * 8 + k) / 8 = s.val; omega)
    have e2 : (s.val * 8 + k) % 8 = k := by omega
    have key : ∀ (s' : Fin 16) (k' : ℕ), s' = s → k' = k →
        top (Set.range (Rows.row (m ((src c s' : Thread nD τ).loc main_arg0)) r)) k'
          = top (Set.range (Rows.row (m ((src c s : Thread nD τ).loc main_arg0)) r)) k := by
      rintro _ _ rfl rfl; rfl
    exact key _ _ e1 e2

end Cert.KernelIdeal.Merge

namespace Cert.Proof

open Idealize.ShloMosaic Idealize.SL.Sem Idealize.ShloMosaic.ValueIdx

attribute [local instance] Cert.KernelIdeal.Gen.facts Cert.DistinctIdeal.Gen.facts Cert.ReferenceIdeal.Gen.facts Cert.On_untied.Read.facts

/-- The kernel computes what the one-device program that counts equal values once computes. -/
theorem kernel_distinct : Cert.algebraic_KernelIdeal_DistinctIdeal := by
  intro m g m' g' _ hx
  refine ⟨Cert.DistinctIdeal.Value.res_main_v37 (F := Ideal) m' 0, ?_, ?_⟩
  · refine (θ_run Cert.KernelIdeal.defs _ _).mono (fun r h c => ⟨(h c).1.trans ?_, (h c).2⟩) (Cert.KernelIdeal.Top.value_main (F := Ideal) m g)
    funext i
    obtain ⟨a, b, rfl⟩ : ∃ (a : Fin 256) (b : Fin 8), i = ix2 a b := ⟨i 0, i 1, eq_ix2 i⟩
    exact (Cert.KernelIdeal.Merge.out_apply m g _ hx c a b).trans (Cert.DistinctIdeal.Cols.result_apply m' 0 a b).symm
  · exact (θ_run Cert.DistinctIdeal.defs _ _).mono (fun r h => h 0) (Cert.DistinctIdeal.Value.run (F := Ideal) m' g')

/-- The kernel computes the reference's entry `(r, j)` on every device wherever the first `j + 1` entries of the reference's
row `r` differ. -/
theorem kernel_reference : Cert.algebraic_KernelIdeal_ReferenceIdeal_on_untied := by
  intro m g m' g' _ hx
  refine ⟨Cert.ReferenceIdeal.Sorted.refVal (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨fun i hi => (congrFun (h c).1 i).trans ?_, (h c).2⟩) (Cert.KernelIdeal.Top.value_main (F := Ideal) m g)
    obtain ⟨a, b, rfl⟩ : ∃ (a : Fin 256) (b : Fin 8), i = ix2 a b := ⟨i 0, i 1, eq_ix2 i⟩
    exact (Cert.KernelIdeal.Merge.out_apply m g _ hx c a b).trans (Cert.On_untied.Read.selected _ a b hi).symm
  · exact (θ_run Cert.ReferenceIdeal.defs _ _).mono (fun r h => ⟨fun i _ => congrFun (h 0).1 i, (h 0).2⟩) (Cert.ReferenceIdeal.Value.run (F := Ideal) m' g')

end Cert.Proof

end
-- ==== Proof.Value.Bridge.lean ====
/-
# Counting equal values once, and apart

Where the eight entries that the reference gives for a row differ, each from the one before it, they are the row's largest
distinct values: the one-device program that counts equal values once gives the same.
-/
module

public import proofs.«01_k».proof.Defs
public import proofs.«01_k».proof.Proof.Value.Distinct
public import proofs.«01_k».proof.Proof.Value.Reference

@[expose] public section

noncomputable section

namespace Cert.Pre_distinct_top.Read

open Idealize.ShloMosaic Idealize.ShloMosaic.ValueIdx

/-- The side conditions that the precondition states. -/
theorem facts : Cert.Pre_distinct_top.Facts where
  slices_S256x16384_S256x8_0_0 := by decide
  bcast_S_S256x8 := by decide
  shapeCasts_S256x8_S256x8x1 := by decide
  bcast_S_S256x8x1 := by decide
  bcast_S1_S1x1x1_2 := by decide
  bcast_S1x1x1_S256x8x1_0_1_2 := by decide
  reducesTo_S256x8x1_S256x8_d2 := by decide
  h_S_ := by decide
  slices_S256x8_S256x7_0_1 := by decide
  slices_S256x8_S256x7_0_0 := by decide
  gather_S256x16384_S256x8x1_S256x8_n_1_0_0_1_2_11_wf := by decide

attribute [local instance] facts

/-- The comparator that the precondition sorts by is the reference's. -/
theorem comparator_eq : Cert.Pre_distinct_top.comparator_f32_i32_d1 (F := Ideal) = Cert.ReferenceIdeal.comparator_f32_i32_d1 (F := Ideal) := rfl

variable (x : FVec Ideal Cert.Pre_distinct_top.S256x16384 .f32)

/-- The precondition reads the reference's result. -/
theorem taken_eq : Cert.Pre_distinct_top.fn_take_along_axis (F := Ideal) x
      (extractStridedSlice Cert.Pre_distinct_top.S256x8 ![0, 0] (Cert.Pre_distinct_top.fn_argsort (F := Ideal) (Host.negf x))
        Cert.Pre_distinct_top.Facts.slices_S256x16384_S256x8_0_0)
    = Cert.ReferenceIdeal.Sorted.refVal x := by
  unfold Cert.Pre_distinct_top.fn_take_along_axis Cert.Pre_distinct_top.fn_argsort
  rw [comparator_eq]
  rfl

/-- Neighbouring entries of the reference differ. -/
theorem apart (h : Cert.Pre_distinct_top.fn (F := Ideal) x = fun _ => 1#1) (r : Fin 256) (k : Fin 7) :
    (Cert.ReferenceIdeal.Sorted.refVal x (ix2 r (⟨k.val + 1, by omega⟩ : Fin 8)) : EReal)
      ≠ Cert.ReferenceIdeal.Sorted.refVal x (ix2 r (⟨k.val, by omega⟩ : Fin 8)) := by
  intro he
  have h1 : Cert.Pre_distinct_top.fn (F := Ideal) x (ix2 r k) = 1#1 := congrFun h (ix2 r k)
  unfold Cert.Pre_distinct_top.fn at h1
  dsimp only at h1
  rw [taken_eq, cmpf_apply] at h1
  have e1 : extractStridedSlice Cert.Pre_distinct_top.S256x7 ![0, 1] (Cert.ReferenceIdeal.Sorted.refVal x) Cert.Pre_distinct_top.Facts.slices_S256x8_S256x7_0_1 (ix2 r k)
      = Cert.ReferenceIdeal.Sorted.refVal x (ix2 r (⟨k.val + 1, by omega⟩ : Fin 8)) :=
    congrArg (Cert.ReferenceIdeal.Sorted.refVal x) (funext fun b => match b with | ⟨0, _⟩ => Fin.ext (Nat.zero_add _) | ⟨1, _⟩ => Fin.ext (Nat.add_comm _ _))
  have e2 : extractStridedSlice Cert.Pre_distinct_top.S256x7 ![0, 0] (Cert.ReferenceIdeal.Sorted.refVal x) Cert.Pre_distinct_top.Facts.slices_S256x8_S256x7_0_0 (ix2 r k)
      = Cert.ReferenceIdeal.Sorted.refVal x (ix2 r (⟨k.val, by omega⟩ : Fin 8)) :=
    congrArg (Cert.ReferenceIdeal.Sorted.refVal x) (funext fun b => match b with | ⟨0, _⟩ => Fin.ext (Nat.zero_add _) | ⟨1, _⟩ => Fin.ext (Nat.zero_add _))
  rw [e1, e2] at h1
  have h2 : (BitVec.ofBool (decide ((Cert.ReferenceIdeal.Sorted.refVal x (ix2 r (⟨k.val + 1, by omega⟩ : Fin 8)) : EReal)
      ≠ Cert.ReferenceIdeal.Sorted.refVal x (ix2 r (⟨k.val, by omega⟩ : Fin 8))))) = 1#1 := h1
  rw [decide_eq_false (not_not.mpr he)] at h2
  exact absurd h2 (by decide)

end Cert.Pre_distinct_top.Read

namespace Cert.Proof

open Idealize.ShloMosaic Idealize.SL.Sem Idealize.ShloMosaic.ValueIdx

attribute [local instance] Cert.DistinctIdeal.Gen.facts Cert.ReferenceIdeal.Gen.facts Cert.Pre_distinct_top.Read.facts

/-- Where the reference's eight entries of every row differ, the program that counts equal values once computes the
reference. -/
theorem distinct_reference : Cert.algebraic_DistinctIdeal_ReferenceIdeal_pre_distinct_top := by
  intro m g m' g' hpre hx
  refine ⟨Cert.DistinctIdeal.Value.res_main_v37 (F := Ideal) m, Cert.DistinctIdeal.Value.run (F := Ideal) m g, ?_⟩
  refine (θ_run Cert.ReferenceIdeal.defs _ _).mono (fun r h c => ⟨(h c).1.trans ?_, (h c).2⟩) (Cert.ReferenceIdeal.Value.run (F := Ideal) m' g')
  rw [hx c]
  funext i
  obtain ⟨a, b, rfl⟩ : ∃ (a : Fin 256) (b : Fin 8), i = ix2 a b := ⟨i 0, i 1, eq_ix2 i⟩
  exact (Cert.ReferenceIdeal.Sorted.refVal_top _ a b fun k _ => Cert.Pre_distinct_top.Read.apart _ (hpre c) a k).trans
    (Cert.DistinctIdeal.Cols.result_apply m c a b).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.DistinctIdeal
public import proofs.«01_k».proof.Proof.Gen.DistinctIdeal.Run
public import proofs.«01_k».proof.Proof.Gen.ReferenceIdeal
public import proofs.«01_k».proof.Proof.Gen.ReferenceIdeal.Run
public import proofs.«01_k».proof.Proof.Claims
public import proofs.«01_k».proof.Proof.Value.Kernel
public import proofs.«01_k».proof.Proof.Value.Bridge
public import Idealize.ShloMosaic.Adequacy
public import Idealize.ShloMosaic.Init

@[expose] public section

noncomputable section

namespace Cert.Proof

open Idealize.ShloMosaic Idealize.SL.Sem Cert.Kernel

/-- All the claims, with the side conditions that the programs state. -/
theorem claim : Cert.Claim :=
  ⟨Cert.Kernel.Gen.facts, Cert.KernelIdeal.Gen.facts, Cert.DistinctIdeal.Gen.facts, Cert.ReferenceIdeal.Gen.facts,
    Cert.Pre_distinct_top.Read.facts, Cert.On_untied.Read.facts, frame_kernel, frame_kernelIdeal, frame_distinct,
    fun m ρ _ => frame_distinct m ρ trivial, frame_reference, fun m ρ _ => frame_reference m ρ trivial, preserves_mask,
    kernel_distinct, kernel_reference, distinct_reference⟩

end Cert.Proof

end
